-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S4096x512 : Shape := ⟨2, ![4096, 512]⟩
abbrev S3x3x3 : Shape := ⟨3, ![3, 3, 3]⟩
abbrev S_ : Shape := ⟨0, ![]⟩
abbrev S1x1x1 : Shape := ⟨3, ![1, 1, 1]⟩
abbrev S176x512 : Shape := ⟨2, ![176, 512]⟩
abbrev S160x512 : Shape := ⟨2, ![160, 512]⟩

abbrev nBuf : Space → Nat
  | .hbm => 2
  | .vmem => 2
  | .smem => 0
  | _ => 0

abbrev bufTy : (tb : Table) → Fin (tcTables nBuf tb) → BufTy
  | .hbm, ⟨0, _⟩ => ⟨S512x512, .f32⟩
  | .hbm, ⟨1, _⟩ => ⟨S4096x512, .f32⟩
  | .local _ .vmem, ⟨0, _⟩ => ⟨S512x512, .f32⟩
  | .local _ .vmem, ⟨1, _⟩ => ⟨S4096x512, .f32⟩
  | _, _ => ⟨S512x512, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_51 : BitVec 32 := 0#32
  let c4_i32_24 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v59 : BitVec 32 := Scalar.muli c4_i32_24 v19
  let c1_i32_23 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v60 : BitVec 32 := Scalar.xori v58 v46
  let c2_i32_25 : BitVec 32 := 2#32
  let v61 : BitVec 32 := Scalar.muli c2_i32_25 v46
  let v62 : BitVec 32 := Scalar.addi v60 v61
  let v63 : BitVec 32 := Scalar.addi v59 v62
  let c1_i32_50 : BitVec 32 := 1#32
  let v106 : BitVec 32 := Scalar.muli v63 c1_i32_50
  let v107 : BitVec 32 := Scalar.addi c0_i32_51 v106
  v107.toNat
def k0_dev2 (d0 : Dev nD) : Nat :=
  let c0_i32_54 : BitVec 32 := 0#32
  let c4_i32_27 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v65 : BitVec 32 := Scalar.muli c4_i32_27 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_26 : BitVec 32 := 1#32
  let v64 : BitVec 32 := Scalar.subi c1_i32_26 v46
  let v66 : BitVec 32 := Scalar.xori v57 v64
  let c2_i32_28 : BitVec 32 := 2#32
  let v67 : BitVec 32 := Scalar.muli c2_i32_28 v64
  let v68 : BitVec 32 := Scalar.addi v66 v67
  let v69 : BitVec 32 := Scalar.addi v65 v68
  let c1_i32_53 : BitVec 32 := 1#32
  let v108 : BitVec 32 := Scalar.muli v69 c1_i32_53
  let v109 : BitVec 32 := Scalar.addi c0_i32_54 v108
  v109.toNat
def k0_dev3 (d0 : Dev nD) : Nat :=
  let c0_i32_57 : BitVec 32 := 0#32
  let c4_i32_30 : BitVec 32 := 4#32
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.subi c1_i32_29 v19
  let v71 : BitVec 32 := Scalar.muli c4_i32_30 v70
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v72 : BitVec 32 := Scalar.xori v57 v46
  let c2_i32_31 : BitVec 32 := 2#32
  let v73 : BitVec 32 := Scalar.muli c2_i32_31 v46
  let v74 : BitVec 32 := Scalar.addi v72 v73
  let v75 : BitVec 32 := Scalar.addi v71 v74
  let c1_i32_56 : BitVec 32 := 1#32
  let v110 : BitVec 32 := Scalar.muli v75 c1_i32_56
  let v111 : BitVec 32 := Scalar.addi c0_i32_57 v110
  v111.toNat
def k0_off1 (d0 : Dev nD) (c0_i32_58 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v112 : BitVec 32 := Scalar.muli v2 c512_i32
  let v113 : BitVec 32 := Scalar.addi v112 c0_i32_58
  let c0_i32_67 : BitVec 32 := 0#32
  ![v113.toNat, 0]
def k0_dev4 (d0 : Dev nD) : Nat :=
  let c0_i32_66 : BitVec 32 := 0#32
  let c4_i32_24 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v59 : BitVec 32 := Scalar.muli c4_i32_24 v19
  let c1_i32_23 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v60 : BitVec 32 := Scalar.xori v58 v46
  let c2_i32_25 : BitVec 32 := 2#32
  let v61 : BitVec 32 := Scalar.muli c2_i32_25 v46
  let v62 : BitVec 32 := Scalar.addi v60 v61
  let v63 : BitVec 32 := Scalar.addi v59 v62
  let c1_i32_65 : BitVec 32 := 1#32
  let v114 : BitVec 32 := Scalar.muli v63 c1_i32_65
  let v115 : BitVec 32 := Scalar.addi c0_i32_66 v114
  v115.toNat
def k0_dev5 (d0 : Dev nD) : Nat :=
  let c0_i32_78 : BitVec 32 := 0#32
  let c4_i32_27 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v65 : BitVec 32 := Scalar.muli c4_i32_27 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_26 : BitVec 32 := 1#32
  let v64 : BitVec 32 := Scalar.subi c1_i32_26 v46
  let v66 : BitVec 32 := Scalar.xori v57 v64
  let c2_i32_28 : BitVec 32 := 2#32
  let v67 : BitVec 32 := Scalar.muli c2_i32_28 v64
  let v68 : BitVec 32 := Scalar.addi v66 v67
  let v69 : BitVec 32 := Scalar.addi v65 v68
  let c1_i32_77 : BitVec 32 := 1#32
  let v124 : BitVec 32 := Scalar.muli v69 c1_i32_77
  let v125 : BitVec 32 := Scalar.addi c0_i32_78 v124
  v125.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_82 : BitVec 32 := 512#32
  let v132 : BitVec 32 := Scalar.muli v2 c512_i32_82
  let c352_i32 : BitVec 32 := 352#32
  let v133 : BitVec 32 := Scalar.addi v132 c352_i32
  let c0_i32_91 : BitVec 32 := 0#32
  ![v133.toNat, 0]
def k0_dev6 (d0 : Dev nD) : Nat :=
  let c0_i32_90 : BitVec 32 := 0#32
  let c4_i32_30 : BitVec 32 := 4#32
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.subi c1_i32_29 v19
  let v71 : BitVec 32 := Scalar.muli c4_i32_30 v70
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v72 : BitVec 32 := Scalar.xori v57 v46
  let c2_i32_31 : BitVec 32 := 2#32
  let v73 : BitVec 32 := Scalar.muli c2_i32_31 v46
  let v74 : BitVec 32 := Scalar.addi v72 v73
  let v75 : BitVec 32 := Scalar.addi v71 v74
  let c1_i32_89 : BitVec 32 := 1#32
  let v134 : BitVec 32 := Scalar.muli v75 c1_i32_89
  let v135 : BitVec 32 := Scalar.addi c0_i32_90 v134
  v135.toNat
def k0_dev7 (d0 : Dev nD) : Nat :=
  let c0_i32_103 : BitVec 32 := 0#32
  let c4_i32_24 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v59 : BitVec 32 := Scalar.muli c4_i32_24 v19
  let c1_i32_23 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v60 : BitVec 32 := Scalar.xori v58 v46
  let c2_i32_25 : BitVec 32 := 2#32
  let v61 : BitVec 32 := Scalar.muli c2_i32_25 v46
  let v62 : BitVec 32 := Scalar.addi v60 v61
  let v63 : BitVec 32 := Scalar.addi v59 v62
  let c1_i32_102 : BitVec 32 := 1#32
  let v144 : BitVec 32 := Scalar.muli v63 c1_i32_102
  let v145 : BitVec 32 := Scalar.addi c0_i32_103 v144
  v145.toNat
def k0_dev8 (d0 : Dev nD) : Nat :=
  let c0_i32_116 : BitVec 32 := 0#32
  let c4_i32_27 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v65 : BitVec 32 := Scalar.muli c4_i32_27 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_26 : BitVec 32 := 1#32
  let v64 : BitVec 32 := Scalar.subi c1_i32_26 v46
  let v66 : BitVec 32 := Scalar.xori v57 v64
  let c2_i32_28 : BitVec 32 := 2#32
  let v67 : BitVec 32 := Scalar.muli c2_i32_28 v64
  let v68 : BitVec 32 := Scalar.addi v66 v67
  let v69 : BitVec 32 := Scalar.addi v65 v68
  let c1_i32_115 : BitVec 32 := 1#32
  let v154 : BitVec 32 := Scalar.muli v69 c1_i32_115
  let v155 : BitVec 32 := Scalar.addi c0_i32_116 v154
  v155.toNat
def k0_dev9 (d0 : Dev nD) : Nat :=
  let c0_i32_129 : BitVec 32 := 0#32
  let c4_i32_30 : BitVec 32 := 4#32
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.subi c1_i32_29 v19
  let v71 : BitVec 32 := Scalar.muli c4_i32_30 v70
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v72 : BitVec 32 := Scalar.xori v57 v46
  let c2_i32_31 : BitVec 32 := 2#32
  let v73 : BitVec 32 := Scalar.muli c2_i32_31 v46
  let v74 : BitVec 32 := Scalar.addi v72 v73
  let v75 : BitVec 32 := Scalar.addi v71 v74
  let c1_i32_128 : BitVec 32 := 1#32
  let v164 : BitVec 32 := Scalar.muli v75 c1_i32_128
  let v165 : BitVec 32 := Scalar.addi c0_i32_129 v164
  v165.toNat
def k0_dev10 (d0 : Dev nD) : Nat :=
  let c0_i32_142 : BitVec 32 := 0#32
  let c4_i32_24 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v59 : BitVec 32 := Scalar.muli c4_i32_24 v19
  let c1_i32_23 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v60 : BitVec 32 := Scalar.xori v58 v46
  let c2_i32_25 : BitVec 32 := 2#32
  let v61 : BitVec 32 := Scalar.muli c2_i32_25 v46
  let v62 : BitVec 32 := Scalar.addi v60 v61
  let v63 : BitVec 32 := Scalar.addi v59 v62
  let c1_i32_141 : BitVec 32 := 1#32
  let v174 : BitVec 32 := Scalar.muli v63 c1_i32_141
  let v175 : BitVec 32 := Scalar.addi c0_i32_142 v174
  v175.toNat
def k0_dev11 (d0 : Dev nD) : Nat :=
  let c0_i32_155 : BitVec 32 := 0#32
  let c4_i32_27 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v65 : BitVec 32 := Scalar.muli c4_i32_27 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_26 : BitVec 32 := 1#32
  let v64 : BitVec 32 := Scalar.subi c1_i32_26 v46
  let v66 : BitVec 32 := Scalar.xori v57 v64
  let c2_i32_28 : BitVec 32 := 2#32
  let v67 : BitVec 32 := Scalar.muli c2_i32_28 v64
  let v68 : BitVec 32 := Scalar.addi v66 v67
  let v69 : BitVec 32 := Scalar.addi v65 v68
  let c1_i32_154 : BitVec 32 := 1#32
  let v184 : BitVec 32 := Scalar.muli v69 c1_i32_154
  let v185 : BitVec 32 := Scalar.addi c0_i32_155 v184
  v185.toNat
def k0_dev12 (d0 : Dev nD) : Nat :=
  let c0_i32_168 : BitVec 32 := 0#32
  let c4_i32_30 : BitVec 32 := 4#32
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.subi c1_i32_29 v19
  let v71 : BitVec 32 := Scalar.muli c4_i32_30 v70
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v72 : BitVec 32 := Scalar.xori v57 v46
  let c2_i32_31 : BitVec 32 := 2#32
  let v73 : BitVec 32 := Scalar.muli c2_i32_31 v46
  let v74 : BitVec 32 := Scalar.addi v72 v73
  let v75 : BitVec 32 := Scalar.addi v71 v74
  let c1_i32_167 : BitVec 32 := 1#32
  let v194 : BitVec 32 := Scalar.muli v75 c1_i32_167
  let v195 : BitVec 32 := Scalar.addi c0_i32_168 v194
  v195.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_173 : BitVec 32 := 512#32
  let v204 : BitVec 32 := Scalar.muli v2 c512_i32_173
  let v205 : Index := Scalar.indexCast v204
  let c0_174 : Index := 0#32
  ![v205.toNat, 0]
def k0_off4 (d0 : Dev nD) (c176_i32_176 : BitVec 32) : Fin 2 → Nat :=
  let c4_i32_27 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v65 : BitVec 32 := Scalar.muli c4_i32_27 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_26 : BitVec 32 := 1#32
  let v64 : BitVec 32 := Scalar.subi c1_i32_26 v46
  let v66 : BitVec 32 := Scalar.xori v57 v64
  let c2_i32_28 : BitVec 32 := 2#32
  let v67 : BitVec 32 := Scalar.muli c2_i32_28 v64
  let v68 : BitVec 32 := Scalar.addi v66 v67
  let v69 : BitVec 32 := Scalar.addi v65 v68
  let c512_i32_175 : BitVec 32 := 512#32
  let v207 : BitVec 32 := Scalar.muli v69 c512_i32_175
  let v208 : BitVec 32 := Scalar.addi v207 c176_i32_176
  let c0_i32_185 : BitVec 32 := 0#32
  ![v208.toNat, 0]
def k0_dev13 (d0 : Dev nD) : Nat :=
  let c0_i32_196 : BitVec 32 := 0#32
  let c4_i32_24 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v59 : BitVec 32 := Scalar.muli c4_i32_24 v19
  let c1_i32_23 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v60 : BitVec 32 := Scalar.xori v58 v46
  let c2_i32_25 : BitVec 32 := 2#32
  let v61 : BitVec 32 := Scalar.muli c2_i32_25 v46
  let v62 : BitVec 32 := Scalar.addi v60 v61
  let v63 : BitVec 32 := Scalar.addi v59 v62
  let c1_i32_195 : BitVec 32 := 1#32
  let v217 : BitVec 32 := Scalar.muli v63 c1_i32_195
  let v218 : BitVec 32 := Scalar.addi c0_i32_196 v217
  v218.toNat
def k0_off5 (d0 : Dev nD) : Fin 2 → Nat :=
  let c4_i32_30 : BitVec 32 := 4#32
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.subi c1_i32_29 v19
  let v71 : BitVec 32 := Scalar.muli c4_i32_30 v70
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v72 : BitVec 32 := Scalar.xori v57 v46
  let c2_i32_31 : BitVec 32 := 2#32
  let v73 : BitVec 32 := Scalar.muli c2_i32_31 v46
  let v74 : BitVec 32 := Scalar.addi v72 v73
  let v75 : BitVec 32 := Scalar.addi v71 v74
  let c512_i32_199 : BitVec 32 := 512#32
  let v225 : BitVec 32 := Scalar.muli v75 c512_i32_199
  let c352_i32_200 : BitVec 32 := 352#32
  let v226 : BitVec 32 := Scalar.addi v225 c352_i32_200
  let c0_i32_209 : BitVec 32 := 0#32
  ![v226.toNat, 0]
def k0_dev14 (d0 : Dev nD) : Nat :=
  let c0_i32_220 : BitVec 32 := 0#32
  let c4_i32_27 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v65 : BitVec 32 := Scalar.muli c4_i32_27 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_26 : BitVec 32 := 1#32
  let v64 : BitVec 32 := Scalar.subi c1_i32_26 v46
  let v66 : BitVec 32 := Scalar.xori v57 v64
  let c2_i32_28 : BitVec 32 := 2#32
  let v67 : BitVec 32 := Scalar.muli c2_i32_28 v64
  let v68 : BitVec 32 := Scalar.addi v66 v67
  let v69 : BitVec 32 := Scalar.addi v65 v68
  let c1_i32_219 : BitVec 32 := 1#32
  let v235 : BitVec 32 := Scalar.muli v69 c1_i32_219
  let v236 : BitVec 32 := Scalar.addi c0_i32_220 v235
  v236.toNat
def k0_off6 (d0 : Dev nD) (c0_i32_224 : BitVec 32) : Fin 2 → Nat :=
  let c4_i32_24 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v59 : BitVec 32 := Scalar.muli c4_i32_24 v19
  let c1_i32_23 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v60 : BitVec 32 := Scalar.xori v58 v46
  let c2_i32_25 : BitVec 32 := 2#32
  let v61 : BitVec 32 := Scalar.muli c2_i32_25 v46
  let v62 : BitVec 32 := Scalar.addi v60 v61
  let v63 : BitVec 32 := Scalar.addi v59 v62
  let c512_i32_223 : BitVec 32 := 512#32
  let v243 : BitVec 32 := Scalar.muli v63 c512_i32_223
  let v244 : BitVec 32 := Scalar.addi v243 c0_i32_224
  let c0_i32_233 : BitVec 32 := 0#32
  ![v244.toNat, 0]
def k0_dev15 (d0 : Dev nD) : Nat :=
  let c0_i32_244 : BitVec 32 := 0#32
  let c4_i32_30 : BitVec 32 := 4#32
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.subi c1_i32_29 v19
  let v71 : BitVec 32 := Scalar.muli c4_i32_30 v70
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v72 : BitVec 32 := Scalar.xori v57 v46
  let c2_i32_31 : BitVec 32 := 2#32
  let v73 : BitVec 32 := Scalar.muli c2_i32_31 v46
  let v74 : BitVec 32 := Scalar.addi v72 v73
  let v75 : BitVec 32 := Scalar.addi v71 v74
  let c1_i32_243 : BitVec 32 := 1#32
  let v253 : BitVec 32 := Scalar.muli v75 c1_i32_243
  let v254 : BitVec 32 := Scalar.addi c0_i32_244 v253
  v254.toNat
def k0_off7 (d0 : Dev nD) : Fin 2 → Nat :=
  let c4_i32_27 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v65 : BitVec 32 := Scalar.muli c4_i32_27 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_26 : BitVec 32 := 1#32
  let v64 : BitVec 32 := Scalar.subi c1_i32_26 v46
  let v66 : BitVec 32 := Scalar.xori v57 v64
  let c2_i32_28 : BitVec 32 := 2#32
  let v67 : BitVec 32 := Scalar.muli c2_i32_28 v64
  let v68 : BitVec 32 := Scalar.addi v66 v67
  let v69 : BitVec 32 := Scalar.addi v65 v68
  let c512_i32_247 : BitVec 32 := 512#32
  let v261 : BitVec 32 := Scalar.muli v69 c512_i32_247
  let c352_i32_248 : BitVec 32 := 352#32
  let v262 : BitVec 32 := Scalar.addi v261 c352_i32_248
  let c0_i32_257 : BitVec 32 := 0#32
  ![v262.toNat, 0]
def k0_dev16 (d0 : Dev nD) : Nat :=
  let c0_i32_268 : BitVec 32 := 0#32
  let c4_i32_24 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v59 : BitVec 32 := Scalar.muli c4_i32_24 v19
  let c1_i32_23 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v60 : BitVec 32 := Scalar.xori v58 v46
  let c2_i32_25 : BitVec 32 := 2#32
  let v61 : BitVec 32 := Scalar.muli c2_i32_25 v46
  let v62 : BitVec 32 := Scalar.addi v60 v61
  let v63 : BitVec 32 := Scalar.addi v59 v62
  let c1_i32_267 : BitVec 32 := 1#32
  let v271 : BitVec 32 := Scalar.muli v63 c1_i32_267
  let v272 : BitVec 32 := Scalar.addi c0_i32_268 v271
  v272.toNat
def k0_off8 (d0 : Dev nD) (c0_i32_272 : BitVec 32) : Fin 2 → Nat :=
  let c4_i32_30 : BitVec 32 := 4#32
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.subi c1_i32_29 v19
  let v71 : BitVec 32 := Scalar.muli c4_i32_30 v70
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v72 : BitVec 32 := Scalar.xori v57 v46
  let c2_i32_31 : BitVec 32 := 2#32
  let v73 : BitVec 32 := Scalar.muli c2_i32_31 v46
  let v74 : BitVec 32 := Scalar.addi v72 v73
  let v75 : BitVec 32 := Scalar.addi v71 v74
  let c512_i32_271 : BitVec 32 := 512#32
  let v279 : BitVec 32 := Scalar.muli v75 c512_i32_271
  let v280 : BitVec 32 := Scalar.addi v279 c0_i32_272
  let c0_i32_281 : BitVec 32 := 0#32
  ![v280.toNat, 0]
def k0_dev17 (d0 : Dev nD) : Nat :=
  let c0_i32_292 : BitVec 32 := 0#32
  let c4_i32_27 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v65 : BitVec 32 := Scalar.muli c4_i32_27 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_26 : BitVec 32 := 1#32
  let v64 : BitVec 32 := Scalar.subi c1_i32_26 v46
  let v66 : BitVec 32 := Scalar.xori v57 v64
  let c2_i32_28 : BitVec 32 := 2#32
  let v67 : BitVec 32 := Scalar.muli c2_i32_28 v64
  let v68 : BitVec 32 := Scalar.addi v66 v67
  let v69 : BitVec 32 := Scalar.addi v65 v68
  let c1_i32_291 : BitVec 32 := 1#32
  let v289 : BitVec 32 := Scalar.muli v69 c1_i32_291
  let v290 : BitVec 32 := Scalar.addi c0_i32_292 v289
  v290.toNat
def k0_dev18 (d0 : Dev nD) : Nat :=
  let c0_i32_316 : BitVec 32 := 0#32
  let c4_i32_30 : BitVec 32 := 4#32
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.subi c1_i32_29 v19
  let v71 : BitVec 32 := Scalar.muli c4_i32_30 v70
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v72 : BitVec 32 := Scalar.xori v57 v46
  let c2_i32_31 : BitVec 32 := 2#32
  let v73 : BitVec 32 := Scalar.muli c2_i32_31 v46
  let v74 : BitVec 32 := Scalar.addi v72 v73
  let v75 : BitVec 32 := Scalar.addi v71 v74
  let c1_i32_315 : BitVec 32 := 1#32
  let v307 : BitVec 32 := Scalar.muli v75 c1_i32_315
  let v308 : BitVec 32 := Scalar.addi c0_i32_316 v307
  v308.toNat
def k0_dev19 (d0 : Dev nD) : Nat :=
  let c0_i32_340 : BitVec 32 := 0#32
  let c4_i32_24 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v59 : BitVec 32 := Scalar.muli c4_i32_24 v19
  let c1_i32_23 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v60 : BitVec 32 := Scalar.xori v58 v46
  let c2_i32_25 : BitVec 32 := 2#32
  let v61 : BitVec 32 := Scalar.muli c2_i32_25 v46
  let v62 : BitVec 32 := Scalar.addi v60 v61
  let v63 : BitVec 32 := Scalar.addi v59 v62
  let c1_i32_339 : BitVec 32 := 1#32
  let v325 : BitVec 32 := Scalar.muli v63 c1_i32_339
  let v326 : BitVec 32 := Scalar.addi c0_i32_340 v325
  v326.toNat
def k0_dev20 (d0 : Dev nD) : Nat :=
  let c0_i32_364 : BitVec 32 := 0#32
  let c4_i32_27 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v65 : BitVec 32 := Scalar.muli c4_i32_27 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_26 : BitVec 32 := 1#32
  let v64 : BitVec 32 := Scalar.subi c1_i32_26 v46
  let v66 : BitVec 32 := Scalar.xori v57 v64
  let c2_i32_28 : BitVec 32 := 2#32
  let v67 : BitVec 32 := Scalar.muli c2_i32_28 v64
  let v68 : BitVec 32 := Scalar.addi v66 v67
  let v69 : BitVec 32 := Scalar.addi v65 v68
  let c1_i32_363 : BitVec 32 := 1#32
  let v343 : BitVec 32 := Scalar.muli v69 c1_i32_363
  let v344 : BitVec 32 := Scalar.addi c0_i32_364 v343
  v344.toNat
def k0_off9 (d0 : Dev nD) : Fin 2 → Nat :=
  let c4_i32_24 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v59 : BitVec 32 := Scalar.muli c4_i32_24 v19
  let c1_i32_23 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v60 : BitVec 32 := Scalar.xori v58 v46
  let c2_i32_25 : BitVec 32 := 2#32
  let v61 : BitVec 32 := Scalar.muli c2_i32_25 v46
  let v62 : BitVec 32 := Scalar.addi v60 v61
  let v63 : BitVec 32 := Scalar.addi v59 v62
  let c512_i32_367 : BitVec 32 := 512#32
  let v351 : BitVec 32 := Scalar.muli v63 c512_i32_367
  let c352_i32_368 : BitVec 32 := 352#32
  let v352 : BitVec 32 := Scalar.addi v351 c352_i32_368
  let c0_i32_377 : BitVec 32 := 0#32
  ![v352.toNat, 0]
def k0_dev21 (d0 : Dev nD) : Nat :=
  let c0_i32_388 : BitVec 32 := 0#32
  let c4_i32_30 : BitVec 32 := 4#32
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.subi c1_i32_29 v19
  let v71 : BitVec 32 := Scalar.muli c4_i32_30 v70
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v72 : BitVec 32 := Scalar.xori v57 v46
  let c2_i32_31 : BitVec 32 := 2#32
  let v73 : BitVec 32 := Scalar.muli c2_i32_31 v46
  let v74 : BitVec 32 := Scalar.addi v72 v73
  let v75 : BitVec 32 := Scalar.addi v71 v74
  let c1_i32_387 : BitVec 32 := 1#32
  let v361 : BitVec 32 := Scalar.muli v75 c1_i32_387
  let v362 : BitVec 32 := Scalar.addi c0_i32_388 v361
  v362.toNat
def k0_off10 (d0 : Dev nD) : Fin 2 → Nat :=
  let c4_i32_38 : BitVec 32 := 4#32
  let c1_i32_37 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v84 : BitVec 32 := Scalar.subi c1_i32_37 v19
  let v85 : BitVec 32 := Scalar.muli c4_i32_38 v84
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_36 : BitVec 32 := 1#32
  let v83 : BitVec 32 := Scalar.subi c1_i32_36 v46
  let v86 : BitVec 32 := Scalar.xori v57 v83
  let c2_i32_39 : BitVec 32 := 2#32
  let v87 : BitVec 32 := Scalar.muli c2_i32_39 v83
  let v88 : BitVec 32 := Scalar.addi v86 v87
  let v89 : BitVec 32 := Scalar.addi v85 v88
  let c512_i32_391 : BitVec 32 := 512#32
  let v369 : BitVec 32 := Scalar.muli v89 c512_i32_391
  let c352_i32_392 : BitVec 32 := 352#32
  let v370 : BitVec 32 := Scalar.addi v369 c352_i32_392
  let c0_i32_401 : BitVec 32 := 0#32
  ![v370.toNat, 0]
def k0_dev22 (d0 : Dev nD) : Nat :=
  let c0_i32_412 : BitVec 32 := 0#32
  let c4_i32_24 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v59 : BitVec 32 := Scalar.muli c4_i32_24 v19
  let c1_i32_23 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v60 : BitVec 32 := Scalar.xori v58 v46
  let c2_i32_25 : BitVec 32 := 2#32
  let v61 : BitVec 32 := Scalar.muli c2_i32_25 v46
  let v62 : BitVec 32 := Scalar.addi v60 v61
  let v63 : BitVec 32 := Scalar.addi v59 v62
  let c1_i32_411 : BitVec 32 := 1#32
  let v379 : BitVec 32 := Scalar.muli v63 c1_i32_411
  let v380 : BitVec 32 := Scalar.addi c0_i32_412 v379
  v380.toNat
def k0_off11 (d0 : Dev nD) (c0_i32_416 : BitVec 32) : Fin 2 → Nat :=
  let c4_i32_42 : BitVec 32 := 4#32
  let c1_i32_41 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v91 : BitVec 32 := Scalar.subi c1_i32_41 v19
  let v92 : BitVec 32 := Scalar.muli c4_i32_42 v91
  let c1_i32_40 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v90 : BitVec 32 := Scalar.subi c1_i32_40 v57
  let v93 : BitVec 32 := Scalar.xori v90 v46
  let c2_i32_43 : BitVec 32 := 2#32
  let v94 : BitVec 32 := Scalar.muli c2_i32_43 v46
  let v95 : BitVec 32 := Scalar.addi v93 v94
  let v96 : BitVec 32 := Scalar.addi v92 v95
  let c512_i32_415 : BitVec 32 := 512#32
  let v387 : BitVec 32 := Scalar.muli v96 c512_i32_415
  let v388 : BitVec 32 := Scalar.addi v387 c0_i32_416
  let c0_i32_425 : BitVec 32 := 0#32
  ![v388.toNat, 0]
def k0_dev23 (d0 : Dev nD) : Nat :=
  let c0_i32_436 : BitVec 32 := 0#32
  let c4_i32_27 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v65 : BitVec 32 := Scalar.muli c4_i32_27 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_26 : BitVec 32 := 1#32
  let v64 : BitVec 32 := Scalar.subi c1_i32_26 v46
  let v66 : BitVec 32 := Scalar.xori v57 v64
  let c2_i32_28 : BitVec 32 := 2#32
  let v67 : BitVec 32 := Scalar.muli c2_i32_28 v64
  let v68 : BitVec 32 := Scalar.addi v66 v67
  let v69 : BitVec 32 := Scalar.addi v65 v68
  let c1_i32_435 : BitVec 32 := 1#32
  let v397 : BitVec 32 := Scalar.muli v69 c1_i32_435
  let v398 : BitVec 32 := Scalar.addi c0_i32_436 v397
  v398.toNat
def k0_off12 (d0 : Dev nD) (c176_i32_440 : BitVec 32) : Fin 2 → Nat :=
  let c4_i32_34 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v78 : BitVec 32 := Scalar.muli c4_i32_34 v19
  let c1_i32_32 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v76 : BitVec 32 := Scalar.subi c1_i32_32 v57
  let c1_i32_33 : BitVec 32 := 1#32
  let v77 : BitVec 32 := Scalar.subi c1_i32_33 v46
  let v79 : BitVec 32 := Scalar.xori v76 v77
  let c2_i32_35 : BitVec 32 := 2#32
  let v80 : BitVec 32 := Scalar.muli c2_i32_35 v77
  let v81 : BitVec 32 := Scalar.addi v79 v80
  let v82 : BitVec 32 := Scalar.addi v78 v81
  let c512_i32_439 : BitVec 32 := 512#32
  let v405 : BitVec 32 := Scalar.muli v82 c512_i32_439
  let v406 : BitVec 32 := Scalar.addi v405 c176_i32_440
  let c0_i32_449 : BitVec 32 := 0#32
  ![v406.toNat, 0]
def k0_dev24 (d0 : Dev nD) : Nat :=
  let c0_i32_460 : BitVec 32 := 0#32
  let c4_i32_30 : BitVec 32 := 4#32
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.subi c1_i32_29 v19
  let v71 : BitVec 32 := Scalar.muli c4_i32_30 v70
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v72 : BitVec 32 := Scalar.xori v57 v46
  let c2_i32_31 : BitVec 32 := 2#32
  let v73 : BitVec 32 := Scalar.muli c2_i32_31 v46
  let v74 : BitVec 32 := Scalar.addi v72 v73
  let v75 : BitVec 32 := Scalar.addi v71 v74
  let c1_i32_459 : BitVec 32 := 1#32
  let v415 : BitVec 32 := Scalar.muli v75 c1_i32_459
  let v416 : BitVec 32 := Scalar.addi c0_i32_460 v415
  v416.toNat
def k0_off13 (d0 : Dev nD) : Fin 2 → Nat :=
  let c4_i32_34 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v78 : BitVec 32 := Scalar.muli c4_i32_34 v19
  let c1_i32_32 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v76 : BitVec 32 := Scalar.subi c1_i32_32 v57
  let c1_i32_33 : BitVec 32 := 1#32
  let v77 : BitVec 32 := Scalar.subi c1_i32_33 v46
  let v79 : BitVec 32 := Scalar.xori v76 v77
  let c2_i32_35 : BitVec 32 := 2#32
  let v80 : BitVec 32 := Scalar.muli c2_i32_35 v77
  let v81 : BitVec 32 := Scalar.addi v79 v80
  let v82 : BitVec 32 := Scalar.addi v78 v81
  let c512_i32_463 : BitVec 32 := 512#32
  let v423 : BitVec 32 := Scalar.muli v82 c512_i32_463
  let c352_i32_464 : BitVec 32 := 352#32
  let v424 : BitVec 32 := Scalar.addi v423 c352_i32_464
  let c0_i32_473 : BitVec 32 := 0#32
  ![v424.toNat, 0]
def k0_off14 (d0 : Dev nD) (c0_i32_476 : BitVec 32) : Fin 2 → Nat :=
  let c4_i32_38 : BitVec 32 := 4#32
  let c1_i32_37 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v84 : BitVec 32 := Scalar.subi c1_i32_37 v19
  let v85 : BitVec 32 := Scalar.muli c4_i32_38 v84
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_36 : BitVec 32 := 1#32
  let v83 : BitVec 32 := Scalar.subi c1_i32_36 v46
  let v86 : BitVec 32 := Scalar.xori v57 v83
  let c2_i32_39 : BitVec 32 := 2#32
  let v87 : BitVec 32 := Scalar.muli c2_i32_39 v83
  let v88 : BitVec 32 := Scalar.addi v86 v87
  let v89 : BitVec 32 := Scalar.addi v85 v88
  let c512_i32_475 : BitVec 32 := 512#32
  let v431 : BitVec 32 := Scalar.muli v89 c512_i32_475
  let v432 : BitVec 32 := Scalar.addi v431 c0_i32_476
  let c0_i32_485 : BitVec 32 := 0#32
  ![v432.toNat, 0]
def k0_off15 (d0 : Dev nD) : Fin 2 → Nat :=
  let c4_i32_42 : BitVec 32 := 4#32
  let c1_i32_41 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v91 : BitVec 32 := Scalar.subi c1_i32_41 v19
  let v92 : BitVec 32 := Scalar.muli c4_i32_42 v91
  let c1_i32_40 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v90 : BitVec 32 := Scalar.subi c1_i32_40 v57
  let v93 : BitVec 32 := Scalar.xori v90 v46
  let c2_i32_43 : BitVec 32 := 2#32
  let v94 : BitVec 32 := Scalar.muli c2_i32_43 v46
  let v95 : BitVec 32 := Scalar.addi v93 v94
  let v96 : BitVec 32 := Scalar.addi v92 v95
  let c512_i32_523 : BitVec 32 := 512#32
  let v463 : BitVec 32 := Scalar.muli v96 c512_i32_523
  let c352_i32_524 : BitVec 32 := 352#32
  let v464 : BitVec 32 := Scalar.addi v463 c352_i32_524
  let c0_i32_533 : BitVec 32 := 0#32
  ![v464.toNat, 0]
def k0_off16 (d0 : Dev nD) : Fin 2 → Nat :=
  let c4_i32_47 : BitVec 32 := 4#32
  let c1_i32_46 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v99 : BitVec 32 := Scalar.subi c1_i32_46 v19
  let v100 : BitVec 32 := Scalar.muli c4_i32_47 v99
  let c1_i32_44 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v97 : BitVec 32 := Scalar.subi c1_i32_44 v57
  let c1_i32_45 : BitVec 32 := 1#32
  let v98 : BitVec 32 := Scalar.subi c1_i32_45 v46
  let v101 : BitVec 32 := Scalar.xori v97 v98
  let c2_i32_48 : BitVec 32 := 2#32
  let v102 : BitVec 32 := Scalar.muli c2_i32_48 v98
  let v103 : BitVec 32 := Scalar.addi v101 v102
  let v104 : BitVec 32 := Scalar.addi v100 v103
  let c512_i32_535 : BitVec 32 := 512#32
  let v471 : BitVec 32 := Scalar.muli v104 c512_i32_535
  let c352_i32_536 : BitVec 32 := 352#32
  let v472 : BitVec 32 := Scalar.addi v471 c352_i32_536
  let c0_i32_545 : BitVec 32 := 0#32
  ![v472.toNat, 0]
def k0_off17 (d0 : Dev nD) (c0_i32_548 : BitVec 32) : Fin 2 → Nat :=
  let c4_i32_47 : BitVec 32 := 4#32
  let c1_i32_46 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v99 : BitVec 32 := Scalar.subi c1_i32_46 v19
  let v100 : BitVec 32 := Scalar.muli c4_i32_47 v99
  let c1_i32_44 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v97 : BitVec 32 := Scalar.subi c1_i32_44 v57
  let c1_i32_45 : BitVec 32 := 1#32
  let v98 : BitVec 32 := Scalar.subi c1_i32_45 v46
  let v101 : BitVec 32 := Scalar.xori v97 v98
  let c2_i32_48 : BitVec 32 := 2#32
  let v102 : BitVec 32 := Scalar.muli c2_i32_48 v98
  let v103 : BitVec 32 := Scalar.addi v101 v102
  let v104 : BitVec 32 := Scalar.addi v100 v103
  let c512_i32_547 : BitVec 32 := 512#32
  let v479 : BitVec 32 := Scalar.muli v104 c512_i32_547
  let v480 : BitVec 32 := Scalar.addi v479 c0_i32_548
  let c0_i32_557 : BitVec 32 := 0#32
  ![v480.toNat, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩

abbrev nBuf : Space → Nat
  | .hbm => 1
  | .vmem => 0
  | .smem => 0
  | _ => 0

abbrev bufTy : (tb : Table) → Fin (tcTables nBuf tb) → BufTy
  | .hbm, ⟨0, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Cube.lean ====
/-
# The schedule of the gather, apart from any machine

Eight devices sit at the corners of a cube. A device is numbered `0 … 7`; its three neighbours are the devices whose
numbers differ from its own by the exclusive-or masks `1`, `3` and `4` (`bit`), one per axis. Every device starts with
one chunk of rows and ends with all eight. A chunk travels in three thirds. A *hop* `(p, a, s)` is the transfer of
phase `p`, along axis `a`, of third `s`:

* phase 0 sends the device's own chunk to its neighbour along `a`;
* phase 1 passes on to the neighbour along `a` the chunk which came along the next axis `a + 1` in phase 0;
* phase 2 passes on along `a` the third `a + 2` of the chunk which came along `a + 1` in phase 1.

A device's part of the protocol is a list of operations (`Op`). What the device holds is a list of named resources
(`Atom`), and each operation takes some of them (`Op.pre`) and gives others (`Op.post`). `ok` says that a list of
operations finds at each point what it takes, and that no device waits for anything which might depend on what it
itself still has to do: the levels of the waits lie below the levels of the device's later signals and transfers.
These are finite statements, decided below for the kernel's list `program` (`program_ok`, `program_final`).
-/
module

public import Idealize.ShloMosaic.Lib.Pipeline.Kit
public import Idealize.ShloMosaic.Lib.Pipeline.BigSepL

@[expose] public section

namespace Cert.Cube

/-! ## Devices and masks -/

/-- The exclusive or of two numbers below eight. -/
def xor8 (c m : Fin 8) : Fin 8 := ⟨(c.val ^^^ m.val) % 8, Nat.mod_lt _ (by decide)⟩

theorem xor8_xor8 : ∀ c m n : Fin 8, xor8 (xor8 c m) n = xor8 c (xor8 m n) := by decide
theorem xor8_self : ∀ c m : Fin 8, xor8 (xor8 c m) m = c := by decide
theorem xor8_cancel : ∀ c m : Fin 8, xor8 c (xor8 c m) = m := by decide
theorem xor8_comm : ∀ c m : Fin 8, xor8 c m = xor8 m c := by decide
theorem xor8_zero : ∀ c : Fin 8, xor8 c 0 = c := by decide

/-- The mask of the neighbour along an axis. -/
def bit : Fin 3 → Fin 8 | 0 => 1 | 1 => 3 | 2 => 4

theorem bit_injective : ∀ a b : Fin 3, bit a = bit b → a = b := by decide

/-- The number of rows of a third of a chunk, -/
def hgt : Fin 3 → ℕ | 0 => 176 | 1 => 176 | 2 => 160
/-- and the row of the chunk it starts at. -/
def low : Fin 3 → ℕ | 0 => 0 | 1 => 176 | 2 => 352

/-! ## Hops -/

/-- A hop: phase, axis, third. -/
abbrev Hop : Type := Fin 3 × Fin 3 × Fin 3

namespace Hop

abbrev phase (h : Hop) : Fin 3 := h.1
abbrev axis (h : Hop) : Fin 3 := h.2.1
abbrev third (h : Hop) : Fin 3 := h.2.2

/-- The chunk the sender of a hop passes on, as a mask from the sender: its own, its neighbour's along the next axis, or
    that neighbour's along the axis after. -/
def relay (h : Hop) : Fin 8 := match h.phase with
  | 0 => 0
  | 1 => bit (h.axis + 1)
  | 2 => xor8 (bit (h.axis + 1)) (bit (h.axis + 2))

/-- The same chunk as a mask from the receiver. -/
def arrive (h : Hop) : Fin 8 := xor8 (bit h.axis) h.relay

/-- Phase 2 moves one third per axis, the others all three. -/
def used (h : Hop) : Bool := h.phase != 2 || h.third == h.axis + 2

/-- The position of a hop among the 27, in the order phase, axis, third. -/
def pos (h : Hop) : ℕ := 9 * h.phase.val + 3 * h.axis.val + h.third.val

theorem pos_lt : ∀ h : Hop, h.pos < 27 := by decide
theorem pos_injective : ∀ h h' : Hop, h.pos = h'.pos → h = h' := by decide

/-- All hops. -/
def all : List Hop :=
  [(0,0,0), (0,0,1), (0,0,2), (0,1,0), (0,1,1), (0,1,2), (0,2,0), (0,2,1), (0,2,2),
   (1,0,0), (1,0,1), (1,0,2), (1,1,0), (1,1,1), (1,1,2), (1,2,0), (1,2,1), (1,2,2),
   (2,0,0), (2,0,1), (2,0,2), (2,1,0), (2,1,1), (2,1,2), (2,2,0), (2,2,1), (2,2,2)]

theorem all_nodup : all.Nodup := by decide
theorem all_complete : Finset.univ = all.toFinset := by decide

/-- The hops that move something, -/
def live : List Hop := all.filter used
/-- and those of them along one axis. -/
def along (a : Fin 3) : List Hop := live.filter fun h => h.axis == a

theorem mem_all : ∀ h : Hop, h ∈ all := by decide
theorem live_nodup : live.Nodup := by decide
theorem used_of_along {a : Fin 3} {h : Hop} (hh : h ∈ along a) : h.axis = a := by
  unfold along at hh; exact eq_of_beq (List.mem_filter.mp hh).2
theorem live_perm : ((along 0 ++ along 1) ++ along 2).Perm live := by decide

end Hop

/-! ## Resources and operations -/

/-- What a device can hold, by name (the meaning of each is given with the machine). -/
inductive Atom
  | barTok (a : Fin 3)            -- the right to signal the neighbour along `a`
  | barPos                        -- the device's place before its barrier
  | barDone                       -- its barrier at rest
  | raw (m : Fin 8) (s : Fin 3)   -- third `s` of the chunk at mask `m` of its own output, not yet written
  | rawOwn                        -- its own chunk of its output, not yet written
  | own                           -- its own chunk of its output, written
  | tile (m : Fin 8) (s : Fin 3)  -- third `s` of the chunk at mask `m`, written
  | dst (h : Hop)                 -- where hop `h` lands, at the neighbour
  | sTok (h : Hop)                -- the right to send hop `h`
  | sWait (h : Hop)               -- hop `h` in flight, as its sender knows it
  | sDone (h : Hop)               -- its send semaphore at rest
  | rTok (h : Hop)                -- the place before hop `h`'s arrival
  | rDone (h : Hop)               -- its receive semaphore at rest
  | xs (a s : Fin 3)              -- a read share of third `s` of the input, for axis `a`
  | xq                            -- a read share of the whole input
  deriving DecidableEq

/-- The operations of a device, in the kernel's granularity. -/
inductive Op
  | signal (a : Fin 3)  -- signal the neighbour along `a`
  | await               -- wait for the three neighbours' signals
  | send (h : Hop)      -- start hop `h`
  | copy                -- copy the input to its own chunk of the output
  | recv (h : Hop)      -- wait for hop `h` to arrive
  | sent (h : Hop)      -- wait for hop `h` to have been read out
  | skip (h : Hop)      -- nothing: a hop that moves nothing
  deriving DecidableEq

/-- What hop `h` reads: in phase 0 the input, later a third received before. -/
def Hop.src (h : Hop) : Atom := if h.phase = 0 then .xs h.axis h.third else .tile h.relay h.third

namespace Op

/-- What an operation takes. -/
def pre : Op → List Atom
  | signal a => .barTok a :: (Hop.along a).map fun h => .raw h.arrive h.third
  | await => [.barPos]
  | send h => [.sTok h, .dst h, h.src]
  | copy => [.xq, .rawOwn]
  | recv h => [.rTok h]
  | sent h => [.sWait h]
  | skip h => [.sTok h, .rTok h]

/-- What an operation gives. -/
def post : Op → List Atom
  | signal _ => []
  | await => .barDone :: (Hop.along 0 ++ Hop.along 1 ++ Hop.along 2).map .dst
  | send h => [.sWait h]
  | copy => [.xq, .own]
  | recv h => [.rDone h, .tile h.arrive h.third]
  | sent h => [.sDone h, h.src]
  | skip h => [.sDone h, .rDone h]

/-- A hop operation is on a hop that moves something, `skip` on one that does not. -/
def fits : Op → Bool
  | send h | recv h | sent h => h.used
  | skip h => !h.used
  | _ => true

/-- The level of what an operation pays to another device: a barrier signal at 1, an arrival of phase `p` at `p + 2`. -/
def pays : Op → Option ℕ
  | signal _ => some 1
  | send h => some (h.phase.val + 2)
  | _ => none

/-- The level of what an operation waits for: a send semaphore at 0. -/
def waits : Op → Option ℕ
  | await => some 1
  | recv h => some (h.phase.val + 2)
  | sent _ => some 0
  | _ => none

/-- Level `l` lies below whatever the operation pays. -/
def above (l : ℕ) (o : Op) : Bool := match o.pays with | some p => decide (l < p) | none => true

/-- What is held after an operation. -/
def after (o : Op) (A : List Atom) : List Atom := o.post ++ A.diff o.pre

end Op

/-- The list of operations finds what it takes, and waits only below what it pays later. -/
def ok : List Op → List Atom → Bool
  | [], _ => true
  | o :: os, A => o.fits && (o.pre.all fun x => o.pre.count x ≤ A.count x)
      && (match o.waits with | some l => os.all (Op.above l) | none => true) && ok os (o.after A)

/-- What is held at the end. -/
def final : List Op → List Atom → List Atom
  | [], A => A
  | o :: os, A => final os (o.after A)

theorem perm_after {o : Op} {A : List Atom} (h : (o.pre.all fun x => o.pre.count x ≤ A.count x) = true) :
    (o.pre ++ A.diff o.pre).Perm A :=
  List.subperm_append_diff_self_of_count_le fun x hx => by
    have := List.all_eq_true.mp h x hx
    exact of_decide_eq_true this

/-! ## The kernel's list -/

/-- The phase 0 hops in the order they start: third `a + k` along axis `a`, `k` outermost. -/
def first : List Hop := [(0,0,0), (0,1,1), (0,2,2), (0,0,1), (0,1,2), (0,2,0), (0,0,2), (0,1,0), (0,2,1)]
/-- The phase 1 hops. -/
def second : List Hop := [(1,0,1), (1,1,2), (1,2,0), (1,0,2), (1,1,0), (1,2,1), (1,0,0), (1,1,1), (1,2,2)]
/-- The phase 2 hops. -/
def third : List Hop := [(2,0,2), (2,1,0), (2,2,1)]
/-- The phase 1 arrivals that nothing passes on. -/
def rest : List Hop := [(1,0,2), (1,1,0), (1,2,1), (1,0,0), (1,1,1), (1,2,2)]

/-- The hop along the next axis in the phase before, whose arrival `h` passes on. -/
def Hop.prev (h : Hop) : Hop := (h.phase - 1, h.axis + 1, h.third)

/-- A device's operations. -/
def program : List Op :=
  [.signal 0, .signal 1, .signal 2, .await] ++ first.map .send ++ [.copy]
    ++ second.flatMap (fun h => [.recv h.prev, .send h])
    ++ third.flatMap (fun h => [.recv h.prev, .send h])
    ++ rest.map .recv ++ third.map .recv
    ++ (first ++ second ++ third).map .sent
    ++ (Hop.all.filter fun h => !h.used).map .skip

/-- The chunks and thirds other devices fill. -/
def foreign : List (Fin 8 × Fin 3) :=
  [(1,0), (1,1), (1,2), (2,0), (2,1), (2,2), (3,0), (3,1), (3,2), (4,0), (4,1), (4,2),
   (5,0), (5,1), (5,2), (6,0), (6,1), (6,2), (7,0), (7,1), (7,2)]

/-- The read shares of the input for the hops of phase 0. -/
def shares : List Atom :=
  [.xs 0 0, .xs 0 1, .xs 0 2, .xs 1 0, .xs 1 1, .xs 1 2, .xs 2 0, .xs 2 1, .xs 2 2]

/-- What a device holds at the start, -/
def begin : List Atom :=
  [.barTok 0, .barTok 1, .barTok 2, .barPos] ++ (Hop.all.map .sTok ++ Hop.all.map .rTok)
    ++ (.rawOwn :: foreign.map fun p => .raw p.1 p.2) ++ (.xq :: shares)

/-- and at the end. -/
def done : List Atom :=
  [.barDone] ++ (Hop.all.map .sDone ++ Hop.all.map .rDone)
    ++ (.own :: foreign.map fun p => .tile p.1 p.2) ++ (.xq :: shares)

set_option maxRecDepth 100000 in
theorem program_ok : ok program begin = true := by decide +kernel

set_option maxRecDepth 100000 in
theorem program_final : (final program begin).Perm done := by decide +kernel

end Cert.Cube
-- ==== Proof.Rows.lean ====
/-
# The rows: chunks and thirds

The output has 4096 rows, eight chunks of 512, one per device; a chunk has three thirds (`hgt` rows from row `low`).
An index of the output lies in the chunk `home i`, at the index `within i` of it. The rectangles the kernel names are
`slab k` (chunk `k`), `tile k s` (third `s` of it) and, in a device's own 512 rows of input, `strip s`. They partition
the arrays, and `home` and `within` read a tile's indices as the strip's.
-/
module

public import proofs.«01_k».proof.Proof.Cube

@[expose] public section

open Idealize.ShloMosaic

namespace Cert.Cube

/-- The shape of the output, -/
abbrev All : Shape := ⟨2, ![4096, 512]⟩
/-- of a chunk, -/
abbrev Chunk : Shape := ⟨2, ![512, 512]⟩
/-- and of `n` rows. -/
abbrev Strip (n : ℕ) : Shape := ⟨2, ![n, 512]⟩

/-- The chunk an index of the output lies in. -/
def home (i : All.Idx) : Fin 8 := ⟨(i 0).val / 512, by have : (i 0).val < 4096 := (i 0).isLt; omega⟩

/-- Its index in that chunk. -/
def within (i : All.Idx) : Chunk.Idx := fun a => match a with
  | ⟨0, _⟩ => ⟨(i 0).val % 512, Nat.mod_lt _ (by decide)⟩
  | ⟨1, _⟩ => ⟨(i 1).val, (i 1).isLt⟩

theorem tile_inb : ∀ (k : Fin 8) (s : Fin 3) (a : Fin 2),
    (![512 * k.val + low s, 0] : Fin 2 → ℕ) a + (Strip (hgt s)).size a ≤ All.size a := by decide
theorem slab_inb : ∀ (k : Fin 8) (a : Fin 2), (![512 * k.val, 0] : Fin 2 → ℕ) a + Chunk.size a ≤ All.size a := by decide
theorem strip_inb : ∀ (s : Fin 3) (a : Fin 2), (![low s, 0] : Fin 2 → ℕ) a + (Strip (hgt s)).size a ≤ Chunk.size a := by decide

/-- Third `s` of chunk `k` of the output. -/
abbrev tile (k : Fin 8) (s : Fin 3) : Rect All := Rect.unit (s := All) ![512 * k.val + low s, 0] (Strip (hgt s)).size (tile_inb k s)
/-- Chunk `k` of the output. -/
abbrev slab (k : Fin 8) : Rect All := Rect.unit (s := All) ![512 * k.val, 0] Chunk.size (slab_inb k)
/-- Third `s` of a device's input. -/
abbrev strip (s : Fin 3) : Rect Chunk := Rect.unit (s := Chunk) ![low s, 0] (Strip (hgt s)).size (strip_inb s)

theorem mem_tile (k : Fin 8) (s : Fin 3) (i : All.Idx) :
    i ∈ (tile k s).set ↔ 512 * k.val + low s ≤ (i 0).val ∧ (i 0).val < 512 * k.val + low s + hgt s := by
  have h1 : (i 1).val < 512 := (i 1).isLt
  rw [Rect.mem_set_unit, Fin.forall_fin_two]
  exact ⟨fun h => h.1, fun h => ⟨h, Nat.zero_le _, by show (i 1).val < 0 + 512; omega⟩⟩

theorem mem_slab (k : Fin 8) (i : All.Idx) : i ∈ (slab k).set ↔ 512 * k.val ≤ (i 0).val ∧ (i 0).val < 512 * k.val + 512 := by
  have h1 : (i 1).val < 512 := (i 1).isLt
  rw [Rect.mem_set_unit, Fin.forall_fin_two]
  exact ⟨fun h => h.1, fun h => ⟨h, Nat.zero_le _, by show (i 1).val < 0 + 512; omega⟩⟩

theorem mem_strip (s : Fin 3) (i : Chunk.Idx) : i ∈ (strip s).set ↔ low s ≤ (i 0).val ∧ (i 0).val < low s + hgt s := by
  have h1 : (i 1).val < 512 := (i 1).isLt
  rw [Rect.mem_set_unit, Fin.forall_fin_two]
  exact ⟨fun h => h.1, fun h => ⟨h, Nat.zero_le _, by show (i 1).val < 0 + 512; omega⟩⟩

/-- A row below 512 lies in one of the three thirds. -/
theorem third_of_row (x : ℕ) (h : x < 512) : ∃ s, low s ≤ x ∧ x < low s + hgt s := by
  by_cases h0 : x < 176
  · exact ⟨0, Nat.zero_le _, by show x < 0 + 176; omega⟩
  by_cases h1 : x < 352
  · exact ⟨1, by show 176 ≤ x; omega, by show x < 176 + 176; omega⟩
  · exact ⟨2, by show 352 ≤ x; omega, by show x < 352 + 160; omega⟩

theorem thirds_apart : ∀ s s' : Fin 3, s ≠ s' → low s + hgt s ≤ low s' ∨ low s' + hgt s' ≤ low s := by decide
theorem third_le : ∀ s : Fin 3, low s + hgt s ≤ 512 := by decide

/-! ## The partitions -/

theorem slab_cover : (Finset.univ : Finset All.Idx) = Finset.univ.biUnion fun k => (slab k).set := by
  refine (Finset.eq_univ_of_forall fun i => Finset.mem_biUnion.mpr ⟨home i, Finset.mem_univ _, ?_⟩).symm
  rw [mem_slab]; show 512 * ((i 0).val / 512) ≤ _ ∧ _ < 512 * ((i 0).val / 512) + 512; omega

theorem slab_disjoint (k k' : Fin 8) (h : k ≠ k') : Disjoint (slab k).set (slab k').set := by
  have : k.val ≠ k'.val := fun e => h (Fin.ext e)
  refine Finset.disjoint_left.mpr fun i hi hi' => ?_
  rw [mem_slab] at hi hi'; omega

theorem tile_cover (k : Fin 8) : (slab k).set = Finset.univ.biUnion fun s => (tile k s).set := by
  ext i
  simp only [Finset.mem_biUnion, Finset.mem_univ, true_and, mem_slab, mem_tile]
  constructor
  · intro h
    obtain ⟨s, h1, h2⟩ := third_of_row ((i 0).val - 512 * k.val) (by omega)
    exact ⟨s, by omega, by omega⟩
  · rintro ⟨s, h1, h2⟩
    have := third_le s; omega

theorem tile_disjoint (k : Fin 8) (s s' : Fin 3) (h : s ≠ s') : Disjoint (tile k s).set (tile k s').set := by
  refine Finset.disjoint_left.mpr fun i hi hi' => ?_
  rw [mem_tile] at hi hi'
  have := thirds_apart s s' h; omega

theorem strip_cover : (Finset.univ : Finset Chunk.Idx) = Finset.univ.biUnion fun s => (strip s).set := by
  refine (Finset.eq_univ_of_forall fun i => Finset.mem_biUnion.mpr ?_).symm
  obtain ⟨s, h⟩ := third_of_row (i 0).val (i 0).isLt
  exact ⟨s, Finset.mem_univ _, (mem_strip s i).mpr h⟩

theorem strip_disjoint (s s' : Fin 3) (h : s ≠ s') : Disjoint (strip s).set (strip s').set := by
  refine Finset.disjoint_left.mpr fun i hi hi' => ?_
  rw [mem_strip] at hi hi'
  have := thirds_apart s s' h; omega

/-! ## Where an index of a tile or of a chunk lies -/

theorem home_tile (k : Fin 8) (s : Fin 3) (j : (tile k s).shape.Idx) : home ((tile k s).emb j) = k := by
  have hj : (j 0).val < hgt s := (j 0).isLt
  have := third_le s
  refine Fin.ext ?_
  show (512 * k.val + low s + 1 * (j 0).val) / 512 = k.val
  omega

theorem within_tile (k : Fin 8) (s : Fin 3) (j : (tile k s).shape.Idx) : within ((tile k s).emb j) = (strip s).emb j := by
  have hj : (j 0).val < hgt s := (j 0).isLt
  have := third_le s
  funext a
  match a with
  | ⟨0, _⟩ =>
    refine Fin.ext ?_
    show (512 * k.val + low s + 1 * (j 0).val) % 512 = low s + 1 * (j 0).val
    omega
  | ⟨1, _⟩ => rfl

theorem home_slab (k : Fin 8) (j : (slab k).shape.Idx) : home ((slab k).emb j) = k := by
  have hj : (j 0).val < 512 := (j 0).isLt
  refine Fin.ext ?_
  show (512 * k.val + 1 * (j 0).val) / 512 = k.val
  omega

theorem within_slab (k : Fin 8) (j : (slab k).shape.Idx) : within ((slab k).emb j) = j := by
  have hj : (j 0).val < 512 := (j 0).isLt
  funext a
  match a with
  | ⟨0, _⟩ =>
    refine Fin.ext ?_
    show (512 * k.val + 1 * (j 0).val) % 512 = (j 0).val
    omega
  | ⟨1, _⟩ =>
    refine Fin.ext ?_
    show 0 + 1 * (j 1).val = (j 1).val
    omega

end Cert.Cube
-- ==== Proof.Lists.lean ====
/-
# Separating conjunctions over lists

A separating conjunction over a list does not depend on the list's order, and one over a concatenation of lists of pairs
is one over the outer list.
-/
module

public import Idealize.ShloMosaic.Lib.Pipeline.Kit
public import Idealize.ShloMosaic.Lib.Pipeline.BigSepL
public import Idealize.ShloMosaic.Lib.Tactic

@[expose] public section

open Idealize.ShloMosaic
open Idealize.SL Idealize.SL.RA Idealize.SL.BI
open scoped Idealize.SL.BI
open Idealize.SL.BI.BIBase Idealize.SL.BI.Laws Idealize.SL.ProofMode

namespace Cert.Cube

variable {M : Type} [URA M] {I J : Type}

/-- Assertions that entail each other are equal. -/
theorem both {P Q : sProp M} (h : P ⊢ Q) (h' : Q ⊢ P) : P = Q := BI.Entails.antisymm h h'

/-- Permuted lists have the same separating conjunction. -/
theorem listSep_perm {l l' : List I} (h : l.Perm l') (Φ : I → sProp M) : bigSepL l Φ = bigSepL l' Φ := by
  induction h with
  | nil => rfl
  | cons x _ ih => rw [bigSepL_cons, bigSepL_cons, ih]
  | swap x y l =>
    simp only [bigSepL_cons']
    exact both
      (by iintro ⟨H1, H2, H3⟩; isplitl [H2]; (· iexact H2); isplitl [H1] <;> iassumption)
      (by iintro ⟨H1, H2, H3⟩; isplitl [H2]; (· iexact H2); isplitl [H1] <;> iassumption)
  | trans _ _ ih₁ ih₂ => rw [ih₁, ih₂]

/-- Equal terms, equal conjunctions. -/
theorem listSep_congr {l : List I} {Φ Ψ : I → sProp M} (h : ∀ i ∈ l, Φ i = Ψ i) : bigSepL l Φ = bigSepL l Ψ :=
  both (bigSepL_mono fun i hi => BIBase.Entails.of_eq (h i hi)) (bigSepL_mono fun i hi => BIBase.Entails.of_eq (h i hi).symm)

/-- A conjunction of pairs is a pair of conjunctions. -/
theorem listSep_sep (l : List I) (Φ Ψ : I → sProp M) : bigSepL l (fun i => iprop(Φ i ∗ Ψ i)) = iprop(bigSepL l Φ ∗ bigSepL l Ψ) := by
  induction l with
  | nil => exact (both (sep_emp (PROP := sProp M)).1 (sep_emp (PROP := sProp M)).2).symm
  | cons i l ih =>
    simp only [bigSepL_cons', ih]
    exact both
      (by iintro ⟨⟨H1, H2⟩, H3, H4⟩; isplitl [H1 H3] <;> (try isplitl [H1]) <;> (try isplitl [H2]) <;> iassumption)
      (by iintro ⟨⟨H1, H2⟩, H3, H4⟩; isplitl [H1 H3] <;> (try isplitl [H1]) <;> (try isplitl [H2]) <;> iassumption)

/-- A list of lists is taken apart list by list. -/
theorem listSep_flatMap (f : J → List I) (l : List J) (Φ : I → sProp M) : bigSepL (l.flatMap f) Φ = bigSepL l fun j => bigSepL (f j) Φ := by
  induction l with
  | nil => rfl
  | cons j l ih => rw [List.flatMap_cons, bigSepL_append, bigSepL_cons', ih]

end Cert.Cube
-- ==== Proof.Blocks.lean ====
/-
# Eight blocks make the array

Row `i` of an array of 4096 rows is row `i mod 512` of block `i / 512`.
-/
module

public import proofs.«01_k».proof.Proof.Rows
public import Idealize.ShloMosaic.Lib.Layout

@[expose] public section

open Idealize.ShloMosaic

namespace Cert.Cube

/-- An index of the array is that of its place in its block. -/
theorem idx_home (h : Layout.Tiles Chunk All 0 8) (i : All.Idx) : h.idx (home i) (within i) = i := by
  funext a
  apply Fin.ext
  fin_cases a
  · exact ((Layout.idx_rows_val h (home i) (within i)).1).trans (Nat.div_add_mod' (i 0).val 512)
  · exact (Layout.idx_rows_val h (home i) (within i)).2

/-- Blocks read at every index's place give the array they are blocks of. -/
theorem assembled {α : Type} (x : Fin 8 → Chunk.Idx → α) (w : All.Idx → α) (hx : ∀ c, x c = Layout.block Chunk All 0 8 c w) :
    (fun i => x (home i) (within i)) = w := by
  funext i
  rw [hx, Layout.block_apply, idx_home]

end Cert.Cube
-- ==== Proof.KernelIdealCells.lean ====
/-
# The kernel's memory, semaphores and schedule

What the names of `Cube` mean on the machine: the memrefs of the kernel's thirds, its semaphores and their cells, the
contents the devices exchange, the rounds schedule of the cells, and the meaning of every resource name (`atom`).
-/
module

public import proofs.«01_k».proof.Proof.Rows
public import proofs.«01_k».proof.Proof.Lists
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.KernelIdeal.Gather

open Cert.KernelIdeal Cert.KernelIdeal.Gen Cert.Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds and the gather's, whose duties are named by an axis -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-- The device at a mask from `c`. -/
abbrev rel (c : Dev nD) (k : Fin 8) : Dev nD := xor8 c k

theorem rel_rel (c : Dev nD) (k k' : Fin 8) : rel (rel c k) k' = rel c (xor8 k k') := xor8_xor8 c k k'
theorem rel_back (c : Dev nD) (k : Fin 8) : rel (rel c k) k = c := xor8_self c k

/-- The neighbour along an axis. -/
abbrev nb (c : Dev nD) (a : Fin 3) : Dev nD := rel c (bit a)

/-! ## Memrefs -/

abbrev xM : Memref sig .tc .vmem S512x512 .f32 := Memref.whole cc0_stg0_0
abbrev oM : Memref sig .tc .vmem S4096x512 .f32 := Memref.whole cc0_stg1_0

/-- Third `s` of chunk `k` of the output, -/
abbrev oT (k : Fin 8) (s : Fin 3) : Memref sig .tc .vmem (Strip (hgt s)) .f32 := oM.slice (tile k s) (fun _ => rfl)
/-- and of the input. -/
abbrev xT (s : Fin 3) : Memref sig .tc .vmem (Strip (hgt s)) .f32 := xM.slice (strip s) (fun _ => rfl)

/-- What the transfer of a third counts on its semaphores. -/
abbrev credit (s : Fin 3) : ℕ := (oT 0 s).view.dmaCredit

theorem credit_pos : ∀ s : Fin 3, 0 < credit s
  | 0 => View.dmaCredit_pos _ (by decide) | 1 => View.dmaCredit_pos _ (by decide) | 2 => View.dmaCredit_pos _ (by decide)
theorem credit_oT (k : Fin 8) (s : Fin 3) : (oT k s).view.dmaCredit = credit s := rfl
theorem credit_xT : ∀ s : Fin 3, (xT s).view.dmaCredit = credit s
  | 0 => rfl | 1 => rfl | 2 => rfl

/-! ## Semaphores and cells -/

/-- The barrier semaphore, the runtime's; -/
abbrev barS : Sem sig := (SemArray.scalar (sig.barrier 0 rfl) : Sems sig S_).sem
/-- a hop's send semaphore -/
def sSem (h : Hop) : DmaSem sig := ⟨2 + h.pos, lt_of_lt_of_le (Nat.add_lt_add_left h.pos_lt 2) (by decide)⟩
/-- and its receive semaphore. -/
def rSem (h : Hop) : DmaSem sig := ⟨29 + h.pos, lt_of_lt_of_le (Nat.add_lt_add_left h.pos_lt 29) (by decide)⟩

abbrev barCell (c : Dev nD) : GSem nD τ sig := ((c : Thread nD τ), .reg barS)
abbrev sCell (c : Dev nD) (h : Hop) : GSem nD τ sig := ((c : Thread nD τ), .dma (sSem h))
abbrev rCell (c : Dev nD) (h : Hop) : GSem nD τ sig := ((c : Thread nD τ), .dma (rSem h))

/-- What a semaphore is for. -/
inductive Kind
  | bar | snd (h : Hop) | rcv (h : Hop) | other
  deriving DecidableEq

/-- The hop at a position. -/
def hopAt (n : ℕ) : Hop := (⟨n / 9 % 3, Nat.mod_lt _ (by decide)⟩, ⟨n / 3 % 3, Nat.mod_lt _ (by decide)⟩, ⟨n % 3, Nat.mod_lt _ (by decide)⟩)

theorem hopAt_pos : ∀ h : Hop, hopAt h.pos = h := by decide

def kindOf : SemLoc sig → Kind
  | .reg q => if q = barS then .bar else .other
  | .dma q => if q.val < 2 then .other else if q.val < 29 then .snd (hopAt (q.val - 2)) else .rcv (hopAt (q.val - 29))

theorem kind_bar : kindOf (.reg barS) = .bar := by decide
theorem kind_snd (h : Hop) : kindOf (.dma (sSem h)) = .snd h := by
  have hp := h.pos_lt
  show (if 2 + h.pos < 2 then _ else if 2 + h.pos < 29 then Kind.snd (hopAt (2 + h.pos - 2)) else _) = _
  rw [if_neg (by omega), if_pos (by omega), Nat.add_sub_cancel_left, hopAt_pos]
theorem kind_rcv (h : Hop) : kindOf (.dma (rSem h)) = .rcv h := by
  show (if 29 + h.pos < 2 then _ else if 29 + h.pos < 29 then _ else Kind.rcv (hopAt (29 + h.pos - 29))) = _
  rw [if_neg (by omega), if_neg (by omega), Nat.add_sub_cancel_left, hopAt_pos]

/-! ## Contents -/

/-- Device `c`'s input, as staged for the kernel. -/
def xstg (c : Dev nD) : (cc0_stg0_0 : Ref sig .tc).ty.Contents (Elt F) :=
  (win0_0.blk (0 : Fin 1)).view.read (Elt F) ((s₀ m ρ).mem ((c : Thread nD τ).loc main_arg0))

/-- The gathered array: chunk `k` is device `k`'s input. -/
def gathered : (cc0_stg1_0 : Ref sig .tc).ty.Contents (Elt F) := fun i => xstg m ρ (home i) (within i)

abbrev OutBuf (F : FTy → Type) (c : Dev nD) : Type := Buf (Elt F) ((c : Thread nD τ).loc cc0_stg1_0)

/-- Third `s` of chunk `k` of device `c`'s output holds `f`, -/
def tilePts (c : Dev nD) (k : Fin 8) (s : Fin 3) (f : OutBuf F c) : sProp 𝕄 :=
  (oT k s).view.loc (c : Thread nD τ) ↦[(oT k s).view.set]{fullShare} f
/-- or something. -/
def rawPts (c : Dev nD) (k : Fin 8) (s : Fin 3) : sProp 𝕄 := iprop(∃ f, tilePts c k s f)
/-- Chunk `k` of device `c`'s output holds `f`. -/
def slabPts (c : Dev nD) (k : Fin 8) (f : OutBuf F c) : sProp 𝕄 :=
  (c : Thread nD τ).loc cc0_stg1_0 ↦[(slab k).set]{fullShare} f

/-- The four read shares of the input: one per axis, for phase 0, and one for the copy. -/
abbrev qt (i : Fin 4) : PosShare TreeShare := ShareLeaves.leaf 2 fullShare i

/-- Axis `a`'s share of third `s` of device `c`'s input. -/
def xsPts (c : Dev nD) (a s : Fin 3) : sProp 𝕄 :=
  (xT s).view.loc (c : Thread nD τ) ↦[(xT s).view.set]{qt a.castSucc} xstg m ρ c
/-- The copy's share of device `c`'s input. -/
def xqPts (c : Dev nD) : sProp 𝕄 := (c : Thread nD τ).loc cc0_stg0_0 ↦{qt 3} xstg m ρ c

/-- What hop `h` reads at device `c`. -/
def srcPts (c : Dev nD) (h : Hop) : sProp 𝕄 :=
  if h.phase = 0 then xsPts m ρ c h.axis h.third else tilePts c (rel c h.relay) h.third (gathered m ρ)

/-- Where hop `h` of device `c` lands. -/
def dstPts (c : Dev nD) (h : Hop) : sProp 𝕄 := rawPts (nb c h.axis) (rel c h.relay) h.third

/-- What hop `h` brings device `c`. -/
def gotPts (c : Dev nD) (h : Hop) : sProp 𝕄 := tilePts c (rel c h.arrive) h.third (gathered m ρ)

/-- What the neighbour along `a` hands device `c` with its signal: where `c`'s hops along `a` land. -/
def barPts (c : Dev nD) (a : Fin 3) : sProp 𝕄 := bigSepL (Hop.along a) fun h => dstPts c h

instance tilePts_storable (c : Dev nD) (k : Fin 8) (s : Fin 3) (f) : BI.Storable (upEmb : UEmb _ 𝕄) (tilePts (F := F) c k s f) := by
  unfold tilePts; infer_instance
instance rawPts_storable (c : Dev nD) (k : Fin 8) (s : Fin 3) : BI.Storable (upEmb : UEmb _ 𝕄) (rawPts (F := F) c k s) := by
  unfold rawPts; infer_instance
instance srcPts_storable (c : Dev nD) (h : Hop) : BI.Storable (upEmb : UEmb _ 𝕄) (srcPts (F := F) m ρ c h) := by
  unfold srcPts xsPts; split <;> infer_instance
instance gotPts_storable (c : Dev nD) (h : Hop) : BI.Storable (upEmb : UEmb _ 𝕄) (gotPts (F := F) m ρ c h) := by
  unfold gotPts; infer_instance

theorem listSep_storable {I : Type} (l : List I) (Φ : I → sProp 𝕄) (h : ∀ i, BI.Storable (upEmb : UEmb _ 𝕄) (Φ i)) :
    BI.Storable (upEmb : UEmb _ 𝕄) (bigSepL l Φ) := by
  induction l with
  | nil => rw [bigSepL_nil]; exact (inferInstance : BI.Storable (upEmb : UEmb _ 𝕄) (iprop(emp) : sProp 𝕄))
  | cons i l ih =>
    rw [bigSepL_cons']
    haveI := h i
    infer_instance

instance barPts_storable (c : Dev nD) (a : Fin 3) : BI.Storable (upEmb : UEmb _ 𝕄) (barPts (F := F) c a) :=
  listSep_storable _ _ fun h => by unfold dstPts; infer_instance

/-! ## The schedule -/

/-- One round. The barrier cell has a duty per axis, one unit each, paid by the neighbour along it; the cells of a hop that
    moves something have one duty, of the third's credit. -/
def sched : Rounds.Schedule (GSem nD τ sig) (Fin 3) 𝕄 where
  duties g r := if r = 0 ∧ g.1.2 = .tc then (match kindOf g.2 with
    | .bar => Finset.univ
    | .snd h => if h.used then {0} else ∅
    | .rcv h => if h.used then {0} else ∅
    | .other => ∅) else ∅
  unitless _ := False
  amount g _ _ := match kindOf g.2 with
    | .bar => 1 | .snd h => credit h.third | .rcv h => credit h.third | .other => 1
  payload g _ d := match kindOf g.2 with
    | .bar => barPts g.1.1 d | .snd h => srcPts m ρ g.1.1 h | .rcv h => gotPts m ρ g.1.1 h | .other => iprop(emp)
  amount_pos g _ _ _ := by
    cases kindOf g.2 with
    | bar => exact Nat.one_pos
    | snd h => exact credit_pos _
    | rcv h => exact credit_pos _
    | other => exact Nat.one_pos

instance sched_payload_storable (g : GSem nD τ sig) (r : ℕ) (d : Fin 3) :
    BI.Storable (upEmb : UEmb _ 𝕄) ((sched (F := F) m ρ).payload g r d) := by
  show BI.Storable upEmb (match kindOf g.2 with
    | .bar => barPts g.1.1 d | .snd h => srcPts m ρ g.1.1 h | .rcv h => gotPts m ρ g.1.1 h | .other => iprop(emp))
  split <;> infer_instance

section Sched
variable (c : Dev nD) (h : Hop) (d : Fin 3)

theorem duties_bar : (sched (F := F) m ρ).duties (barCell c) 0 = Finset.univ := by
  dsimp only [sched]; rw [if_pos ⟨rfl, rfl⟩, kind_bar]
theorem duties_snd (hu : h.used = true) : (sched (F := F) m ρ).duties (sCell c h) 0 = {0} := by
  dsimp only [sched]; rw [if_pos ⟨rfl, rfl⟩, kind_snd]; exact if_pos hu
theorem duties_rcv (hu : h.used = true) : (sched (F := F) m ρ).duties (rCell c h) 0 = {0} := by
  dsimp only [sched]; rw [if_pos ⟨rfl, rfl⟩, kind_rcv]; exact if_pos hu
theorem duties_later (g : GSem nD τ sig) : ∀ r, 1 ≤ r → (sched (F := F) m ρ).duties g r = ∅ :=
  fun r hr => by dsimp only [sched]; exact if_neg fun h => by omega
theorem duties_snd_none (hu : h.used = false) : ∀ r, 0 ≤ r → (sched (F := F) m ρ).duties (sCell c h) r = ∅ := fun r _ => by
  rcases Nat.eq_zero_or_pos r with rfl | hr
  · dsimp only [sched]; rw [if_pos ⟨rfl, rfl⟩, kind_snd]; exact if_neg (by rw [hu]; exact Bool.false_ne_true)
  · exact duties_later m ρ _ r hr
theorem duties_rcv_none (hu : h.used = false) : ∀ r, 0 ≤ r → (sched (F := F) m ρ).duties (rCell c h) r = ∅ := fun r _ => by
  rcases Nat.eq_zero_or_pos r with rfl | hr
  · dsimp only [sched]; rw [if_pos ⟨rfl, rfl⟩, kind_rcv]; exact if_neg (by rw [hu]; exact Bool.false_ne_true)
  · exact duties_later m ρ _ r hr

theorem amount_bar : (sched (F := F) m ρ).amount (barCell c) 0 d = 1 := by dsimp only [sched]; rw [kind_bar]
theorem amount_snd : (sched (F := F) m ρ).amount (sCell c h) 0 d = credit h.third := by dsimp only [sched]; rw [kind_snd]
theorem amount_rcv : (sched (F := F) m ρ).amount (rCell c h) 0 d = credit h.third := by dsimp only [sched]; rw [kind_rcv]

theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_snd (hu : h.used = true) : (sched (F := F) m ρ).expect (sCell c h) 0 = credit h.third := by
  unfold Schedule.expect Schedule.amountOf; rw [duties_snd m ρ c h hu, Finset.sum_singleton, amount_snd]
theorem expect_rcv (hu : h.used = true) : (sched (F := F) m ρ).expect (rCell c h) 0 = credit h.third := by
  unfold Schedule.expect Schedule.amountOf; rw [duties_rcv m ρ c h hu, Finset.sum_singleton, amount_rcv]

theorem payload_bar : (sched (F := F) m ρ).payload (barCell c) 0 d = barPts c d := by dsimp only [sched]; rw [kind_bar]
theorem payload_snd : (sched (F := F) m ρ).payload (sCell c h) 0 d = srcPts m ρ c h := by dsimp only [sched]; rw [kind_snd]
theorem payload_rcv : (sched (F := F) m ρ).payload (rCell c h) 0 d = gotPts m ρ c h := by dsimp only [sched]; rw [kind_rcv]

/-- The whole of the barrier's round: where all of `c`'s hops land. -/
theorem rest_bar : bigSep ((sched (F := F) m ρ).duties (barCell c) 0 \ ∅) (fun d => (sched (F := F) m ρ).payload (barCell c) 0 d)
    = bigSepL (Hop.along 0 ++ Hop.along 1 ++ Hop.along 2) fun h => dstPts c h := by
  rw [Finset.sdiff_empty, duties_bar, bigSep_univ_eq_bigSepL [0, 1, 2] (by decide) (by decide), bigSepL_append, bigSepL_append]
  simp only [bigSepL_cons_cons, bigSepL_singleton, payload_bar]
  exact both (show iprop(barPts c 0 ∗ barPts c 1 ∗ barPts c 2) ⊢ iprop((barPts c 0 ∗ barPts c 1) ∗ barPts c 2) from by
      iintro ⟨H0, H1, H2⟩; isplitl [H0 H1]; (· isplitl [H0] <;> iassumption); iexact H2)
    (show iprop((barPts c 0 ∗ barPts c 1) ∗ barPts c 2) ⊢ iprop(barPts c 0 ∗ barPts c 1 ∗ barPts c 2) from by
      iintro ⟨⟨H0, H1⟩, H2⟩; isplitl [H0]; (· iexact H0); isplitl [H1] <;> iassumption)
theorem rest_snd (hu : h.used = true) :
    bigSep ((sched (F := F) m ρ).duties (sCell c h) 0 \ ∅) (fun d => (sched (F := F) m ρ).payload (sCell c h) 0 d) = srcPts m ρ c h := by
  rw [Finset.sdiff_empty, duties_snd m ρ c h hu, bigSep_singleton, payload_snd]
theorem rest_rcv (hu : h.used = true) :
    bigSep ((sched (F := F) m ρ).duties (rCell c h) 0 \ ∅) (fun d => (sched (F := F) m ρ).payload (rCell c h) 0 d) = gotPts m ρ c h := by
  rw [Finset.sdiff_empty, duties_rcv m ρ c h hu, bigSep_singleton, payload_rcv]

end Sched

/-! ## Levels -/

def L (g : GSem nD τ sig) : Finset Unit := if g.1.2 = .tc then {()} else ∅
/-- Barriers at 1, arrivals of phase `p` at `p + 2`, everything else at 0. -/
def lv (g : GSem nD τ sig) (_ : Unit) : ℕ := match kindOf g.2 with | .bar => 1 | .rcv h => h.phase.val + 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [kind_bar]
theorem lv_snd (c : Dev nD) (h : Hop) : lv (sCell c h) () = 0 := by unfold lv; rw [kind_snd]
theorem lv_rcv (c : Dev nD) (h : Hop) : lv (rCell c h) () = h.phase.val + 2 := by unfold lv; rw [kind_rcv]

/-! ## What a device owes -/

/-- What an operation of device `c` pays to another device. -/
def due (c : Dev nD) : Op → CellTallies nD τ sig Unit
  | .signal a => tallyAt (barCell (nb c a)) () 1
  | .send h => tallyAt (rCell (nb c h.axis) h) () (credit h.third)
  | _ => 0

/-- What device `c` owes before a list of operations. -/
def owed (c : Dev nD) : List Op → CellTallies nD τ sig Unit
  | [] => 0
  | o :: os => owed c os + due c o

theorem tallyAt_pos {g g' : GSem nD τ sig} {u : Unit} {n : ℕ} (hg : 0 < (tallyAt g () n : CellTallies nD τ sig Unit) g' u) : g' = g := by
  rw [tallyAt_apply] at hg
  by_contra hn
  rw [if_neg (fun h => hn h.1)] at hg
  exact Nat.lt_irrefl 0 hg

theorem due_level {c : Dev nD} {o : Op} {g : GSem nD τ sig} {u : Unit} (hg : 0 < due c o g u) :
    g.1.2 = .tc ∧ o.pays = some (lv g ()) := by
  cases o with
  | signal a => rw [tallyAt_pos hg]; exact ⟨rfl, by rw [lv_bar]; rfl⟩
  | send h => rw [tallyAt_pos hg]; exact ⟨rfl, by rw [lv_rcv]; rfl⟩
  | await => exact absurd hg (Nat.lt_irrefl 0)
  | copy => exact absurd hg (Nat.lt_irrefl 0)
  | recv h => exact absurd hg (Nat.lt_irrefl 0)
  | sent h => exact absurd hg (Nat.lt_irrefl 0)
  | skip h => exact absurd hg (Nat.lt_irrefl 0)

/-- A cell a device owes something is another operation's, at that operation's level. -/
theorem owed_level {c : Dev nD} {g : GSem nD τ sig} {u : Unit} : ∀ {os : List Op}, 0 < owed c os g u →
    g.1.2 = .tc ∧ ∃ o ∈ os, o.pays = some (lv g ())
  | [], hg => absurd hg (Nat.lt_irrefl 0)
  | o :: os, hg => by
    unfold owed at hg
    rw [Pi.add_apply, Finsupp.add_apply] at hg
    rcases Nat.eq_zero_or_pos (owed c os g u) with h0 | hp
    · have := due_level (c := c) (o := o) (g := g) (u := u) (by omega)
      exact ⟨this.1, o, List.mem_cons_self, this.2⟩
    · obtain ⟨h1, o', ho', h2⟩ := owed_level hp
      exact ⟨h1, o', List.mem_cons_of_mem _ ho', h2⟩

/-- A device may wait at a cell whose level lies below whatever it owes. -/
theorem mayWait (c : Dev nD) (sm : SemLoc sig) (os : List Op) (h : os.all (Op.above (lv ((c : Thread nD τ), sm) ())) = true) :
    (levAts L lv : sProp 𝕄) ⊢ MayWait (c : Thread nD τ) sm () (owed c os) :=
  MayOwe.of_cut (L := L) (lev := lv) (lv ((c : Thread nD τ), sm) ())
    (fun p hp => by rw [Finset.mem_singleton.mp hp, L_tc]; exact Finset.mem_singleton_self _)
    (fun g u hg => by unfold L; rw [if_pos (owed_level hg).1]; exact Finset.mem_singleton_self _)
    (fun p hp => by rw [Finset.mem_singleton.mp hp])
    (fun g u hg => by
      obtain ⟨-, o, ho, hp⟩ := owed_level hg
      have := List.all_eq_true.mp h o ho
      unfold Op.above at this
      rw [hp] at this
      exact of_decide_eq_true this)

/-! ## The meaning of the resource names -/

def atom (c : Dev nD) : Atom → sProp 𝕄
  | .barTok a => dutyTok ER (barCell (nb c a)) 0 a
  | .barPos => iprop(atPos ER (barCell c) 0 ∅ 0 ∗ cred (tallyAt (barCell c) () 3))
  | .barDone => semVal (barCell c) 0
  | .raw k s => rawPts c (rel c k) s
  | .rawOwn => iprop(∃ f, slabPts c c f)
  | .own => slabPts c c (gathered m ρ)
  | .tile k s => tilePts c (rel c k) s (gathered m ρ)
  | .dst h => dstPts c h
  | .sTok h => iprop(atPos ER (sCell c h) 0 ∅ 0 ∗ dutyTok ER (sCell c h) 0 0 ∗ dutyTok ER (rCell (nb c h.axis) h) 0 0)
  | .sWait h => iprop(atPos ER (sCell c h) 0 ∅ 0 ∗ cred (tallyAt (sCell c h) () (credit h.third)))
  | .sDone h => semVal (sCell c h) 0
  | .rTok h => iprop(atPos ER (rCell c h) 0 ∅ 0 ∗ (if h.used = true then cred (tallyAt (rCell c h) () (credit h.third)) else emp))
  | .rDone h => semVal (rCell c h) 0
  | .xs a s => xsPts m ρ c a s
  | .xq => xqPts m ρ c

theorem atom_src (c : Dev nD) (h : Hop) : atom m ρ c h.src = srcPts m ρ c h := by
  unfold Hop.src srcPts; split <;> rfl

end Cert.KernelIdeal.Gather

end
-- ==== Proof.KernelIdealSteps.lean ====
/-
# One rule per operation

`Does` says what one operation of a device's program is worth: it takes the operation's resources and what the device
owes, and gives the resources after it and what it owes then. `Run` says that a program carries out a list of operations
from any resources it is `ok` at. Each kind of operation is proved once, for every device, axis and hop; `Run.step`
puts them together.
-/
module

public import proofs.«01_k».proof.Proof.KernelIdealCells
public import Idealize.ShloMosaic.Lib.Pipeline.Value

@[expose] public section

noncomputable section

namespace Cert.KernelIdeal.Gather

open Cert.KernelIdeal Cert.KernelIdeal.Gen Cert.Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What everyone knows -/

/-- A device's cells: its barrier's, its hops' send and receive cells. -/
abbrev Slot : Type := Option (Hop ⊕ Hop)

abbrev slotSem : Slot → SemLoc sig
  | none => .reg barS | some (.inl h) => .dma (sSem h) | some (.inr h) => .dma (rSem h)
abbrev cellAt (x : Dev nD × Slot) : GSem nD τ sig := ((x.1 : Thread nD τ), slotSem x.2)

/-- All cells' invariants, at names `K`, and that every cell is at its round. -/
def records (K : Dev nD × Slot → ℕ) : sProp 𝕄 :=
  iprop((bigSep Finset.univ fun x : Dev nD × Slot => cellInv ER (sched m ρ) (K x) (cellAt x))
    ∗ bigSep Finset.univ fun x : Dev nD × Slot => reached ER (cellAt x) 0)

instance records_persistent (K : Dev nD × Slot → ℕ) : BI.Persistent (records m ρ K) := by unfold records; infer_instance

/-- The records and the levels. -/
def known (K : Dev nD × Slot → ℕ) : sProp 𝕄 := iprop(records m ρ K ∗ levAts L lv)

instance known_persistent (K : Dev nD × Slot → ℕ) : BI.Persistent (known m ρ K) := by unfold known; infer_instance

section Known
variable (K : Dev nD × Slot → ℕ)

theorem one_inv (x : Dev nD × Slot) :
    (bigSep Finset.univ fun x : Dev nD × Slot => (cellInv ER (sched m ρ) (K x) (cellAt x) : sProp 𝕄)) ⊢ cellInv ER (sched m ρ) (K x) (cellAt x) :=
  bigSep_elim (Finset.mem_univ x)
omit [FloatOps F] in
theorem one_reached (x : Dev nD × Slot) :
    (bigSep Finset.univ fun x : Dev nD × Slot => (reached ER (cellAt x) 0 : sProp 𝕄)) ⊢ reached ER (cellAt x) 0 :=
  bigSep_elim (Finset.mem_univ x)

theorem known_inv (x : Dev nD × Slot) : known m ρ K ⊢ cellInv ER (sched m ρ) (K x) (cellAt x) := by
  unfold known records
  iintro ⟨⟨H, -⟩, -⟩
  iapply (one_inv m ρ K x); iexact H
theorem known_reached (x : Dev nD × Slot) : known m ρ K ⊢ reached ER (cellAt x) 0 := by
  unfold known records
  iintro ⟨⟨-, H⟩, -⟩
  iapply (one_reached x); iexact H
theorem known_levels : known m ρ K ⊢ (levAts L lv : sProp 𝕄) := by
  unfold known; iintro ⟨-, H⟩; iexact H

theorem inv_bar (c : Dev nD) : known m ρ K ⊢ cellInv ER (sched m ρ) (K (c, none)) (barCell c) := known_inv m ρ K (c, none)
theorem inv_snd (c : Dev nD) (h : Hop) : known m ρ K ⊢ cellInv ER (sched m ρ) (K (c, some (.inl h))) (sCell c h) :=
  known_inv m ρ K (c, some (.inl h))
theorem inv_rcv (c : Dev nD) (h : Hop) : known m ρ K ⊢ cellInv ER (sched m ρ) (K (c, some (.inr h))) (rCell c h) :=
  known_inv m ρ K (c, some (.inr h))
theorem at_bar (c : Dev nD) : known m ρ K ⊢ reached ER (barCell c) 0 := known_reached m ρ K (c, none)
theorem at_snd (c : Dev nD) (h : Hop) : known m ρ K ⊢ reached ER (sCell c h) 0 := known_reached m ρ K (c, some (.inl h))
theorem at_rcv (c : Dev nD) (h : Hop) : known m ρ K ⊢ reached ER (rCell c h) 0 := known_reached m ρ K (c, some (.inr h))

end Known

/-! ## Operations -/

abbrev Code (F : FTy → Type) : Type 1 := Prog (TpuEff nD τ sig (Elt F) Λ₀ .tc) PUnit

/-- The weakest precondition of device `c`'s code. -/
abbrev WP [FloatOps F] (c : Dev nD) (p : Code F) (Q : PUnit → sProp 𝕄) : sProp 𝕄 :=
  wp frame (wpE (defs₀ (F := F)) 𝒱₀ (c : Thread nD τ) none) Set.univ p Q

variable (K : Dev nD × Slot → ℕ) (c : Dev nD)

/-- The operation waits below what is owed after it. -/
def below (o : Op) (os : List Op) : Prop := match o.waits with | some l => os.all (Op.above l) = true | none => True

/-- The code `p` does operation `o` and goes on with `p'`, the operations `os` still to come. -/
def Does (o : Op) (os : List Op) (p p' : Code F) : Prop :=
  o.fits = true → below o os → ∀ (W : Waits sig Unit) (Q : PUnit → sProp 𝕄),
    iprop(known m ρ K ∗ owes (c : Thread nD τ) (owed c (o :: os)) W ∗ bigSepL o.pre (atom m ρ c))
      ⊢ iprop((((∃ W', owes (c : Thread nD τ) (owed c os) W') ∗ bigSepL o.post (atom m ρ c)) -∗ WP c p' Q) -∗ WP c p Q)

/-- What device `c` holds with operations `os` to come and resources `A`. -/
def holds (os : List Op) (A : List Atom) : sProp 𝕄 :=
  iprop(known m ρ K ∗ (∃ W, owes (c : Thread nD τ) (owed c os) W) ∗ bigSepL A (atom m ρ c))

/-- The code `p` carries out the operations `os`. -/
def Run (os : List Op) (p : Code F) : Prop :=
  ∀ (A : List Atom) (Q : PUnit → sProp 𝕄), ok os A = true →
    iprop(holds m ρ K c os A ∗ (holds m ρ K c [] (final os A) -∗ Q ⟨⟩)) ⊢ WP c p Q

variable {m ρ K c}

theorem Run.ret : Run m ρ K c [] (Prog.ret ⟨⟩ : Code F) := fun A Q _ => by
  unfold WP; rw [wp_ret]
  iintro ⟨H, Hk⟩
  imodintro
  iapply Hk; iexact H

theorem Run.step {o : Op} {os : List Op} {p p' : Code F} (h : Does m ρ K c o os p p') (hr : Run m ρ K c os p') :
    Run m ρ K c (o :: os) p := fun A Q hok => by
  unfold ok at hok
  simp only [Bool.and_eq_true] at hok
  obtain ⟨⟨⟨hf, hp⟩, hw⟩, hrest⟩ := hok
  have hb : below o os := by
    unfold below
    revert hw
    cases o.waits with
    | none => exact fun _ => trivial
    | some l => exact id
  have hA : bigSepL A (atom m ρ c) = iprop(bigSepL o.pre (atom m ρ c) ∗ bigSepL (A.diff o.pre) (atom m ρ c)) := by
    rw [← bigSepL_append]; exact (listSep_perm (perm_after hp) _).symm
  have key := hr (o.after A) Q hrest
  unfold holds at key ⊢
  rw [hA]
  rw [show final (o :: os) A = final os (o.after A) from rfl]
  iintro ⟨⟨#Hkn, ⟨%W, HO⟩, Hpre, Hrest⟩, Hk⟩
  iapply (h hf hb W Q) $$ [HO Hpre]
  · isplitr; · iexact Hkn
    isplitl [HO] <;> iassumption
  iintro ⟨HO, Hpost⟩
  iapply key
  isplitr [Hk]
  · isplitr; · iexact Hkn
    isplitl [HO]; · iexact HO
    unfold Op.after; rw [bigSepL_append]
    isplitl [Hpost] <;> iassumption
  · iexact Hk

/-! ### Signal -/

theorem does_signal (a : Fin 3) (os : List Op) (n : Dev nD) (j : ℤ) (hn : n = nb c a) (hj : j = ((1 : ℕ) : ℤ)) {k : PUnit.{1} → Code F} :
    Does m ρ K c (.signal a) os (Prog.op (TpuEff.semSignal (n : Thread nD τ) barS j) k) (k ⟨⟩) := by
  subst hn hj
  intro _ _ W Q
  have hpay : bigSepL ((Hop.along a).map fun h => Atom.raw h.arrive h.third) (atom m ρ c) = (barPts (nb c a) a : sProp 𝕄) := by
    rw [bigSepL_map]; unfold barPts
    refine listSep_congr fun h hh => ?_
    have ha : h.axis = a := Hop.used_of_along hh
    show rawPts c (rel c h.arrive) h.third = rawPts (nb (nb c a) h.axis) (rel (nb c a) h.relay) h.third
    rw [ha, show nb (nb c a) a = c from rel_back c (bit a), show rel (nb c a) h.relay = rel c (xor8 (bit a) h.relay) from rel_rel c _ _,
      Hop.arrive, ha]
  show iprop(known m ρ K ∗ owes (c : Thread nD τ) (owed c (.signal a :: os)) W
      ∗ bigSepL (Atom.barTok a :: (Hop.along a).map fun h => Atom.raw h.arrive h.third) (atom m ρ c)) ⊢ _
  rw [bigSepL_cons', hpay]
  show iprop(known m ρ K ∗ owes (c : Thread nD τ) (owed c (.signal a :: os)) W ∗ dutyTok ER (barCell (nb c a)) 0 a ∗ barPts (nb c a) a) ⊢ _
  iintro ⟨#Hkn, HO, Htok, Hpay⟩ Hk
  iapply (Rounds.wp_signal 𝒱₀ ER (sched m ρ) (c : Thread nD τ) none (dst := (nb c a : Thread nD τ)) (κ := K (nb c a, none))
      (d := a) (by rw [duties_bar]; exact Finset.mem_univ _) (amount_bar m ρ (nb c a) a) () (owed c os) rfl) $$ [HO Htok Hpay]
  · isplitr; · iapply (inv_bar m ρ K (nb c a)); iexact Hkn
    isplitl [HO]; · iexact HO
    isplitl [Htok]; · iexact Htok
    isplitl [Hpay]; · rw [payload_bar]; iexact Hpay
    iapply (at_bar m ρ K (nb c a)); iexact Hkn
  iintro HO
  iapply Hk
  isplitl [HO]; · iexists W; iexact HO
  rw [show (Op.signal a).post = [] from rfl, bigSepL_nil]; iempintro

/-! ### The barrier -/

theorem does_await (os : List Op) (j : ℤ) (hj : j = ((3 : ℕ) : ℤ)) {k : PUnit.{1} → Code F} :
    Does m ρ K c .await os (Prog.op (TpuEff.semWait barS j) k) (k ⟨⟩) := by
  subst hj
  intro _ hb W Q
  rw [show owed c (.await :: os) = owed c os from add_zero _]
  show iprop(known m ρ K ∗ owes (c : Thread nD τ) (owed c os) W ∗ bigSepL [Atom.barPos] (atom m ρ c)) ⊢ _
  rw [bigSepL_singleton]
  show iprop(known m ρ K ∗ owes (c : Thread nD τ) (owed c os) W ∗ atPos ER (barCell c) 0 ∅ 0 ∗ cred (tallyAt (barCell c) () 3)) ⊢ _
  have hpost : bigSepL Op.await.post (atom m ρ c)
      = iprop(semVal (barCell c) 0 ∗ bigSepL (Hop.along 0 ++ Hop.along 1 ++ Hop.along 2) (dstPts c)) := by
    show bigSepL (Atom.barDone :: (Hop.along 0 ++ Hop.along 1 ++ Hop.along 2).map Atom.dst) (atom m ρ c) = _
    rw [bigSepL_cons', bigSepL_map]; rfl
  iintro ⟨#Hkn, HO, Hat, Hcr⟩ Hk
  iapply (Rounds.wp_wait_rest_token 𝒱₀ ER (sched m ρ) (c : Thread nD τ) none (κ := K (c, none))
      (wpE_semWait_eq 𝒱₀ (c : Thread nD τ) none Set.univ) (Set.mem_univ _) () (O := owed c os) (W := W) (R := 0) (m := 0) (T := ∅)
      (by rw [expect_bar])) $$ [Hcr HO Hat]
  · isplitr; · iapply (inv_bar m ρ K c); iexact Hkn
    isplitl [Hcr]; · iexact Hcr
    isplitl [HO]; · iexact HO
    isplitr
    · iapply (mayWait c (.reg barS) os (by rw [lv_bar]; exact hb)); iapply (known_levels m ρ K); iexact Hkn
    iexact Hat
  iintro ⟨HO, Hat, -, Hpay⟩
  ihave Hd := (Entails.of_eq (rest_bar m ρ c)) $$ Hpay
  imod (Rounds.cell_close ER (sched m ρ) (Set.mem_univ (K (c, none))) (fun h => h) (R := 0 + 1) (duties_later m ρ (barCell c))) $$ [Hat] with Hz
  · isplitr; · iapply (inv_bar m ρ K c); iexact Hkn
    iexact Hat
  iapply Hk
  isplitl [HO]; · iexists _; iexact HO
  rw [hpost]
  isplitl [Hz]; · iexact Hz
  iexact Hd

/-! ### Sending -/

theorem rel_arrive (c : Dev nD) (h : Hop) : rel (nb c h.axis) h.arrive = rel c h.relay := by
  unfold Hop.arrive; rw [rel_rel]; exact congrArg (rel c) (xor8_cancel _ _)

/-- The rule of every send, given what it reads. -/
theorem does_send (h : Hop) (os : List Op) (src : Memref sig .tc .vmem (Strip (hgt h.third)) .f32)
    (q : PosShare TreeShare) (fs : Buf (Elt F) (src.view.loc (c : Thread nD τ)))
    (hsrc : (src.view.loc (c : Thread nD τ) ↦[src.view.set]{q} fs : sProp 𝕄) = srcPts m ρ c h)
    (hval : ∀ (fd : OutBuf F (nb c h.axis)), ∀ i ∈ (oT (rel c h.relay) h.third).view.set,
      (oT (rel c h.relay) h.third).view.write (Elt F) fd (src.view.read (Elt F) fs) Finset.univ i = gathered m ρ i)
    (n : Dev nD) (hn : n = nb c h.axis) (qs qr : DmaSem sig) (hqs : qs = sSem h) (hqr : qr = rSem h)
    {hsc : (oT (rel c h.relay) h.third : Memref sig (Dev.tc n : Thread nD τ).2.kind .vmem (Strip (hgt h.third)) .f32).view.ref.isScScratch = false}
    {hws : src.view.WordExact} {hwd : (oT (rel c h.relay) h.third).view.WordExact}
    {hsem : DmaTarget.Typed .vmem (.dma qr) (.remote (Dev.tc n : Thread nD τ) (oT (rel c h.relay) h.third) (.dma qs) hsc)}
    {k : PUnit.{1} → Code F} :
    Does m ρ K c (.send h) os
      (Prog.op (TpuEff.enqueueDma src (.remote (Dev.tc n : Thread nD τ) (oT (rel c h.relay) h.third) (.dma qs) hsc) (.dma qr) hws hwd hsem) k) (k ⟨⟩) := by
  subst hn hqs hqr
  intro hu _ W Q
  have hu : h.used = true := hu
  show iprop(known m ρ K ∗ owes (c : Thread nD τ) (owed c (.send h :: os)) W ∗ bigSepL [Atom.sTok h, Atom.dst h, h.src] (atom m ρ c)) ⊢ _
  rw [bigSepL_cons', bigSepL_cons', bigSepL_singleton, atom_src, ← hsrc]
  show iprop(known m ρ K ∗ owes (c : Thread nD τ) (owed c (.send h :: os)) W
    ∗ (atPos ER (sCell c h) 0 ∅ 0 ∗ dutyTok ER (sCell c h) 0 0 ∗ dutyTok ER (rCell (nb c h.axis) h) 0 0)
    ∗ (∃ f, tilePts (nb c h.axis) (rel c h.relay) h.third f) ∗ _) ⊢ _
  unfold tilePts
  have hpost : bigSepL (Op.send h).post (atom m ρ c)
      = iprop(atPos ER (sCell c h) 0 ∅ 0 ∗ cred (tallyAt (sCell c h) () (credit h.third))) := by
    show bigSepL [Atom.sWait h] (atom m ρ c) = _
    rw [bigSepL_singleton]; rfl
  iintro ⟨#Hkn, HO, ⟨Hat, Hts, Htr⟩, ⟨%fd, Hdst⟩, Hsrc⟩ Hk
  iapply (Rounds.wp_send_pointsTo 𝒱₀ ER (sched m ρ) (c : Thread nD τ) none (κ₁ := K (c, some (.inl h))) (κ₂ := K (nb c h.axis, some (.inr h)))
    (r₁ := 0) (r₂ := 0) (d₁ := 0) (d₂ := 0) (fd := fd) (q := q) (fs := fs) (c' := (Dev.tc (nb c h.axis) : Thread nD τ)) (src := src) (dst := oT (rel c h.relay) h.third) (sem := .dma (rSem h))
    (by rw [duties_snd m ρ c h hu]; exact Finset.mem_singleton_self _) (by rw [duties_rcv m ρ (nb c h.axis) h hu]; exact Finset.mem_singleton_self _)
    () () (credit h.third) (show (oT (rel c h.relay) h.third).view.amount (.dma (rSem h)) = credit h.third from credit_oT _ _) (amount_snd m ρ c h 0) (amount_rcv m ρ (nb c h.axis) h 0) (owed c os) rfl (W := W)
    (by rw [payload_snd, hsrc])
    (by
      rw [payload_rcv]; unfold gotPts tilePts
      rw [rel_arrive]
      exact Entails.of_eq (pointsTo_congr (hval fd)))) $$ [HO Hts Htr Hdst Hsrc]
  · isplitr; · iapply (inv_snd m ρ K c h); iexact Hkn
    isplitr; · iapply (inv_rcv m ρ K (nb c h.axis) h); iexact Hkn
    isplitl [Hsrc]; · iexact Hsrc
    isplitl [Hdst]; · iexact Hdst
    isplitl [HO]; · iexact HO
    isplitl [Hts]; · iexact Hts
    isplitr; · iapply (at_snd m ρ K c h); iexact Hkn
    isplitl [Htr]; · iexact Htr
    iapply (at_rcv m ρ K (nb c h.axis) h); iexact Hkn
  iintro ⟨Hcr, HO⟩
  iapply Hk
  isplitl [HO]; · iexists W; iexact HO
  rw [hpost]
  isplitl [Hat] <;> iassumption

/-- A third written where it is read from. -/
theorem same_tile (k : Fin 8) (s : Fin 3) (d : Dev nD) (fd : OutBuf F d) (i) (hi : i ∈ (oT k s).view.set) :
    (oT k s).view.write (Elt F) fd ((oT k s).view.read (Elt F) (gathered m ρ)) Finset.univ i = gathered m ρ i := by
  obtain ⟨x, -, rfl⟩ := Finset.mem_map.mp hi
  rw [View.write_emb_of_mem _ _ (Finset.mem_univ x), View.read_apply, cast_cast, cast_eq]

/-- A third of device `k`'s input written to its chunk. -/
theorem own_tile (k : Dev nD) (s : Fin 3) (d : Dev nD) (fd : OutBuf F d) (i) (hi : i ∈ (oT k s).view.set) :
    (oT k s).view.write (Elt F) fd ((xT s).view.read (Elt F) (xstg m ρ k)) Finset.univ i = gathered m ρ i := by
  obtain ⟨x, -, rfl⟩ := Finset.mem_map.mp hi
  rw [View.write_emb_of_mem _ _ (Finset.mem_univ x), View.read_apply, cast_cast, cast_eq]
  show xstg m ρ k ((strip s).emb x) = xstg m ρ (home ((tile k s).emb x)) (within ((tile k s).emb x))
  rw [home_tile, within_tile]

/-- A send of phase 0, the third of the input named by its rows. -/
theorem does_first (h : Hop) (os : List Op) (h0 : h.phase = 0) (r : ℕ) (off off' : Fin 2 → ℕ)
    (inb : ∀ a, off a + (Strip r).size a ≤ S4096x512.size a) (inb' : ∀ a, off' a + (Strip r).size a ≤ S512x512.size a)
    (hr : r = hgt h.third) (hoff : off = ![512 * c.val + low h.third, 0]) (hoff' : off' = ![low h.third, 0])
    (n : Dev nD) (hn : n = nb c h.axis) (qs qr : DmaSem sig) (hqs : qs = sSem h) (hqr : qr = rSem h) {hu hu'}
    {hsc : (oM.slice (Rect.unit (s := S4096x512) off (Strip r).size inb) hu : Memref sig (Dev.tc n : Thread nD τ).2.kind .vmem (Strip r) .f32).view.ref.isScScratch = false}
    {hws} {hwd} {hsem} {k : PUnit.{1} → Code F} :
    Does m ρ K c (.send h) os
      (Prog.op (TpuEff.enqueueDma (xM.slice (Rect.unit (s := S512x512) off' (Strip r).size inb') hu')
        (.remote (Dev.tc n : Thread nD τ) (oM.slice (Rect.unit (s := S4096x512) off (Strip r).size inb) hu : Memref sig .tc .vmem (Strip r) .f32) (.dma qs) hsc)
        (.dma qr) hws hwd hsem) k) (k ⟨⟩) := by
  subst hr hoff'
  have hrel : h.relay = 0 := by unfold Hop.relay; rw [h0]
  have hc : rel c h.relay = c := by rw [hrel]; exact xor8_zero c
  have hoff2 : off = ![512 * (rel c h.relay).val + low h.third, 0] := by rw [hc]; exact hoff
  subst hoff2
  refine does_send h os (xT h.third) (qt h.axis.castSucc) (xstg m ρ c) ?_ ?_ n hn qs qr hqs hqr
  · unfold srcPts xsPts; rw [if_pos h0]
  · intro fd i hi
    have key := own_tile (F := F) (m := m) (ρ := ρ) (rel c h.relay) h.third (nb c h.axis) fd i hi
    rw [show xstg m ρ (rel c h.relay) = xstg m ρ c from congrArg (xstg m ρ) hc] at key
    exact key

/-- A send of a later phase: from a third of the output to the same third at the neighbour. -/
theorem does_relay (h : Hop) (os : List Op) (h0 : h.phase ≠ 0) (r : ℕ) (off : Fin 2 → ℕ)
    (inb : ∀ a, off a + (Strip r).size a ≤ S4096x512.size a)
    (hr : r = hgt h.third) (hoff : off = ![512 * (rel c h.relay).val + low h.third, 0])
    (n : Dev nD) (hn : n = nb c h.axis) (qs qr : DmaSem sig) (hqs : qs = sSem h) (hqr : qr = rSem h) {hu hu'}
    {hsc : (oM.slice (Rect.unit (s := S4096x512) off (Strip r).size inb) hu : Memref sig (Dev.tc n : Thread nD τ).2.kind .vmem (Strip r) .f32).view.ref.isScScratch = false}
    {hws} {hwd} {hsem} {k : PUnit.{1} → Code F} :
    Does m ρ K c (.send h) os
      (Prog.op (TpuEff.enqueueDma (oM.slice (Rect.unit (s := S4096x512) off (Strip r).size inb) hu')
        (.remote (Dev.tc n : Thread nD τ) (oM.slice (Rect.unit (s := S4096x512) off (Strip r).size inb) hu : Memref sig .tc .vmem (Strip r) .f32) (.dma qs) hsc)
        (.dma qr) hws hwd hsem) k) (k ⟨⟩) := by
  subst hr hoff
  refine does_send h os (oT (rel c h.relay) h.third) fullShare (gathered m ρ) ?_ ?_ n hn qs qr hqs hqr
  · unfold srcPts tilePts; rw [if_neg h0]
  · exact fun fd i hi => same_tile _ _ _ fd i hi

/-! ### The copy of the input -/

theorem does_copy (os : List Op) (off : Fin 2 → ℕ) (inb : ∀ a, off a + S512x512.size a ≤ S4096x512.size a)
    (hoff : off = ![512 * c.val, 0]) {h1 h2 h3 h4} {k : PUnit.{1} → Code F} :
    Does m ρ K c .copy os
      (Prog.op (TpuEff.load (p := .tc) xM (Rect.unit (s := S512x512) ![0, 0] S512x512.size inb_S512x512_S512x512_0_0).toLoadRect h1) fun v =>
        Prog.op (TpuEff.load (p := .tc) oM (Rect.unit (s := S4096x512) off S512x512.size inb).toLoadRect h2) fun _ =>
          Prog.op (TpuEff.store (p := .tc) oM (Rect.unit (s := S4096x512) off S512x512.size inb) (k0_pay1 v) Finset.univ h3 h4) k) (k ⟨⟩) := by
  subst hoff
  intro _ _ W Q
  rw [show owed c (.copy :: os) = owed c os from add_zero _]
  have hset : (oM.access (slab c)).set = (slab c).set := View.set_slice_whole _ _
  have hone : (oM.access (slab c)).setOn Finset.univ ⊆ (slab c).set := by rw [View.setOn_univ, hset]
  have hload : oM.view.setOn (slab c).toLoadRect.set ⊆ (slab c).set := by
    intro i hi
    obtain ⟨x, hx, rfl⟩ := Finset.mem_map.mp hi
    exact hx
  have hread : xM.view.readAt (Elt F) (Rect.unit (s := S512x512) ![0, 0] S512x512.size inb_S512x512_S512x512_0_0).toLoadRect (xstg m ρ c)
      = xstg m ρ c := Memref.readAt_unit_zero (Elt F) cc0_stg0_0 (off := ![0, 0]) (by decide) _ _
  have hval : ∀ (f : OutBuf F c) (i), i ∈ (slab c).set →
      (oM.access (slab c)).write (Elt F) f (k0_pay1 (xstg m ρ c)) Finset.univ i = gathered m ρ i := by
    intro f i hi
    rw [← hset] at hi
    obtain ⟨x, -, rfl⟩ := Finset.mem_map.mp hi
    refine (View.write_emb_of_mem (v := oM.access (slab c)) f _ (Finset.mem_univ x)).trans ?_
    rw [cast_eq]
    show shapeCast S512x512 (xstg m ρ c) _ x = xstg m ρ (home ((slab c).emb x)) (within ((slab c).emb x))
    refine (congrFun (shapeCast_self (s := S512x512) (xstg m ρ c) shapeCasts_S512x512_S512x512) x).trans ?_
    rw [home_slab, within_slab]
  have hpre : bigSepL Op.copy.pre (atom m ρ c) = iprop(xqPts m ρ c ∗ ∃ f, slabPts c c f) := by
    show bigSepL [Atom.xq, Atom.rawOwn] (atom m ρ c) = _
    rw [bigSepL_cons', bigSepL_singleton]; rfl
  have hpost : bigSepL Op.copy.post (atom m ρ c) = iprop(xqPts m ρ c ∗ slabPts c c (gathered m ρ)) := by
    show bigSepL [Atom.xq, Atom.own] (atom m ρ c) = _
    rw [bigSepL_cons', bigSepL_singleton]; rfl
  rw [hpre, hpost]
  unfold xqPts slabPts
  iintro ⟨#Hkn, HO, Hx, ⟨%f, Ho⟩⟩ Hk
  iapply (wp_load (defs := defs₀ (F := F)) 𝒱₀ (c : Thread nD τ) none Set.univ (m := xM) (Finset.subset_univ _)) $$ Hx
  iintro Hx
  iapply (wp_load (defs := defs₀ (F := F)) 𝒱₀ (c : Thread nD τ) none Set.univ (m := oM) hload) $$ Ho
  iintro Ho
  iapply (wp_store (defs := defs₀ (F := F)) 𝒱₀ (c : Thread nD τ) none Set.univ (m := oM) hone) $$ Ho
  iintro Ho
  iapply Hk
  isplitl [HO]; · iexists W; iexact HO
  isplitl [Hx]; · iexact Hx
  rw [hread]
  iapply (Entails.of_eq (pointsTo_congr (hval f))); iexact Ho

/-! ### Waiting for a hop -/

theorem does_recv (h : Hop) (os : List Op) (q : DmaSem sig) (hq : q = rSem h)
    {b : Ref sig .tc} {s : Shape} {e : EltTy} (hv : b.dmaCredit s e = credit h.third) {hb} {k : PUnit.{1} → Code F} :
    Does m ρ K c (.recv h) os (Prog.op (TpuEff.waitDma (p := .tc) q b s e hb) k) (k ⟨⟩) := by
  subst hq
  intro hu hw W Q
  have hu : h.used = true := hu
  rw [show owed c (.recv h :: os) = owed c os from add_zero _]
  show iprop(known m ρ K ∗ owes (c : Thread nD τ) (owed c os) W ∗ bigSepL [Atom.rTok h] (atom m ρ c)) ⊢ _
  rw [bigSepL_singleton]
  show iprop(known m ρ K ∗ owes (c : Thread nD τ) (owed c os) W
    ∗ atPos ER (rCell c h) 0 ∅ 0 ∗ (if h.used = true then cred (tallyAt (rCell c h) () (credit h.third)) else emp)) ⊢ _
  rw [if_pos hu]
  have hpost : bigSepL (Op.recv h).post (atom m ρ c) = iprop(semVal (rCell c h) 0 ∗ gotPts m ρ c h) := by
    show bigSepL [Atom.rDone h, Atom.tile h.arrive h.third] (atom m ρ c) = _
    rw [bigSepL_cons', bigSepL_singleton]; rfl
  iintro ⟨#Hkn, HO, Hat, Hcr⟩ Hk
  iapply (Rounds.wp_wait_rest_token 𝒱₀ ER (sched m ρ) (c : Thread nD τ) none (κ := K (c, some (.inr h)))
      (wpE_waitDma_eq 𝒱₀ (c : Thread nD τ) none Set.univ) (Set.mem_univ _) () (O := owed c os) (W := W) (R := 0) (m := 0) (T := ∅)
      (by rw [expect_rcv m ρ c h hu, Nat.zero_add]; exact hv)) $$ [Hcr HO Hat]
  · isplitr; · iapply (inv_rcv m ρ K c h); iexact Hkn
    isplitl [Hcr]; · rw [hv]; iexact Hcr
    isplitl [HO]; · iexact HO
    isplitr
    · iapply (mayWait c (.dma (rSem h)) os (by rw [lv_rcv]; exact hw)); iapply (known_levels m ρ K); iexact Hkn
    iexact Hat
  iintro ⟨HO, Hat, -, Hpay⟩
  ihave Hd := (Entails.of_eq (rest_rcv m ρ c h hu)) $$ Hpay
  imod (Rounds.cell_close ER (sched m ρ) (Set.mem_univ (K (c, some (.inr h)))) (fun h => h) (R := 0 + 1) (duties_later m ρ (rCell c h))) $$ [Hat] with Hz
  · isplitr; · iapply (inv_rcv m ρ K c h); iexact Hkn
    iexact Hat
  iapply Hk
  isplitl [HO]; · iexists _; iexact HO
  rw [hpost]
  isplitl [Hz]; · iexact Hz
  iexact Hd

theorem does_sent (h : Hop) (os : List Op) (q : DmaSem sig) (hq : q = sSem h)
    {b : Ref sig .tc} {s : Shape} {e : EltTy} (hv : b.dmaCredit s e = credit h.third) {hb} {k : PUnit.{1} → Code F} :
    Does m ρ K c (.sent h) os (Prog.op (TpuEff.waitDma (p := .tc) q b s e hb) k) (k ⟨⟩) := by
  subst hq
  intro hu hw W Q
  have hu : h.used = true := hu
  rw [show owed c (.sent h :: os) = owed c os from add_zero _]
  show iprop(known m ρ K ∗ owes (c : Thread nD τ) (owed c os) W ∗ bigSepL [Atom.sWait h] (atom m ρ c)) ⊢ _
  rw [bigSepL_singleton]
  show iprop(known m ρ K ∗ owes (c : Thread nD τ) (owed c os) W
    ∗ atPos ER (sCell c h) 0 ∅ 0 ∗ cred (tallyAt (sCell c h) () (credit h.third))) ⊢ _
  have hpost : bigSepL (Op.sent h).post (atom m ρ c) = iprop(semVal (sCell c h) 0 ∗ srcPts m ρ c h) := by
    show bigSepL [Atom.sDone h, h.src] (atom m ρ c) = _
    rw [bigSepL_cons', bigSepL_singleton, atom_src]; rfl
  iintro ⟨#Hkn, HO, Hat, Hcr⟩ Hk
  iapply (Rounds.wp_wait_rest_token 𝒱₀ ER (sched m ρ) (c : Thread nD τ) none (κ := K (c, some (.inl h)))
      (wpE_waitDma_eq 𝒱₀ (c : Thread nD τ) none Set.univ) (Set.mem_univ _) () (O := owed c os) (W := W) (R := 0) (m := 0) (T := ∅)
      (by rw [expect_snd m ρ c h hu, Nat.zero_add]; exact hv)) $$ [Hcr HO Hat]
  · isplitr; · iapply (inv_snd m ρ K c h); iexact Hkn
    isplitl [Hcr]; · rw [hv]; iexact Hcr
    isplitl [HO]; · iexact HO
    isplitr
    · iapply (mayWait c (.dma (sSem h)) os (by rw [lv_snd]; exact hw)); iapply (known_levels m ρ K); iexact Hkn
    iexact Hat
  iintro ⟨HO, Hat, -, Hpay⟩
  ihave Hd := (Entails.of_eq (rest_snd m ρ c h hu)) $$ Hpay
  imod (Rounds.cell_close ER (sched m ρ) (Set.mem_univ (K (c, some (.inl h)))) (fun h => h) (R := 0 + 1) (duties_later m ρ (sCell c h))) $$ [Hat] with Hz
  · isplitr; · iapply (inv_snd m ρ K c h); iexact Hkn
    iexact Hat
  iapply Hk
  isplitl [HO]; · iexists _; iexact HO
  rw [hpost]
  isplitl [Hz]; · iexact Hz
  iexact Hd

/-- A hop that moves nothing: its cells are at rest as they are. -/
theorem does_skip (h : Hop) (os : List Op) (p : Code F) : Does m ρ K c (.skip h) os p p := by
  intro hu _ W Q
  have hu : h.used = false := by
    have : (!h.used) = true := hu
    simpa using this
  rw [show owed c (.skip h :: os) = owed c os from add_zero _]
  show iprop(known m ρ K ∗ owes (c : Thread nD τ) (owed c os) W ∗ bigSepL [Atom.sTok h, Atom.rTok h] (atom m ρ c)) ⊢ _
  rw [bigSepL_cons', bigSepL_singleton]
  show iprop(known m ρ K ∗ owes (c : Thread nD τ) (owed c os) W
    ∗ (atPos ER (sCell c h) 0 ∅ 0 ∗ dutyTok ER (sCell c h) 0 0 ∗ dutyTok ER (rCell (nb c h.axis) h) 0 0)
    ∗ atPos ER (rCell c h) 0 ∅ 0 ∗ (if h.used = true then cred (tallyAt (rCell c h) () (credit h.third)) else emp)) ⊢ _
  have hpost : bigSepL (Op.skip h).post (atom m ρ c) = iprop(semVal (sCell c h) 0 ∗ semVal (rCell c h) 0) := by
    show bigSepL [Atom.sDone h, Atom.rDone h] (atom m ρ c) = _
    rw [bigSepL_cons', bigSepL_singleton]; rfl
  iintro ⟨#Hkn, HO, ⟨Hs, -, -⟩, Hr, -⟩ Hk
  imod (Rounds.cell_close ER (sched m ρ) (Set.mem_univ (K (c, some (.inl h)))) (fun h => h) (R := 0) (duties_snd_none m ρ c h hu)) $$ [Hs] with Hzs
  · isplitr; · iapply (inv_snd m ρ K c h); iexact Hkn
    iexact Hs
  imod (Rounds.cell_close ER (sched m ρ) (Set.mem_univ (K (c, some (.inr h)))) (fun h => h) (R := 0) (duties_rcv_none m ρ c h hu)) $$ [Hr] with Hzr
  · isplitr; · iapply (inv_rcv m ρ K c h); iexact Hkn
    iexact Hr
  iapply Hk
  isplitl [HO]; · iexists W; iexact HO
  rw [hpost]
  isplitl [Hzs] <;> iassumption

end Cert.KernelIdeal.Gather

end
-- ==== Proof.KernelIdealBody.lean ====
/-
# The kernel's body

The printed body, opened, carries out `program`: every operation is one of the kinds in `KernelIdealSteps`; what is left
to check at each is that the device it names, the rows it names and the semaphores it names are the hop's.
-/
module

public import proofs.«01_k».proof.Proof.KernelIdealSteps

@[expose] public section

noncomputable section

namespace Cert.KernelIdeal.Gather

open Cert.KernelIdeal Cert.KernelIdeal.Gen Cert.Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Slot → ℕ) (c : Dev nD)

/-- The body over the two staging buffers. -/
abbrev theBody (F : FTy → Type) [FloatOps F] : Code F :=
  cc0_body (Memref.whole cc0_stg0_0) (Memref.isWhole_whole _) (Memref.whole cc0_stg1_0) (Memref.isWhole_whole _) cc0_scratch0 cc0_scratch1

theorem run_skips : Run m ρ K c ((Hop.all.filter fun h => !h.used).map .skip) (Prog.ret ⟨⟩ : Code F) := by
  generalize (Hop.all.filter fun h => !h.used) = l
  induction l with
  | nil => exact Run.ret
  | cons h l ih => exact Run.step (does_skip h _ _) ih

theorem run_body : Run m ρ K c program (theBody F) := by
  intro A Q hok
  unfold WP theBody
  simp only [cc0_body_eq_skeleton]; unfold cc0_body_skel
  sl_open_parts
  simp only [semSignalWord, semWaitWord, Prog.lift, Prog.bind_op, Prog.bind_ret, Prog.pure_eq_ret, wp_deviceId]
  revert A Q hok
  change Run m ρ K c program _
  unfold program
  simp only [first, second, third, rest, List.map, List.flatMap_cons, List.flatMap_nil, List.cons_append, List.nil_append,
    List.append_nil, List.append_assoc]
  refine Run.step (does_signal 0 _ _ _ (by revert c; decide +kernel) rfl) ?_
  refine Run.step (does_signal 1 _ _ _ (by revert c; decide +kernel) rfl) ?_
  refine Run.step (does_signal 2 _ _ _ (by revert c; decide +kernel) rfl) ?_
  refine Run.step (does_await _ _ rfl) ?_
  iterate 9
    refine Run.step (does_first _ _ rfl _ _ _ _ _ rfl (by revert c; decide +kernel) rfl _ (by revert c; decide +kernel) _ _ rfl rfl) ?_
  refine Run.step (does_copy _ _ _ (by revert c; decide +kernel)) ?_
  iterate 12
    refine Run.step (does_recv _ _ _ rfl rfl) ?_
    refine Run.step (does_relay _ _ (by decide) _ _ _ rfl (by revert c; decide +kernel) _ (by revert c; decide +kernel) _ _ rfl rfl) ?_
  iterate 9
    refine Run.step (does_recv _ _ _ rfl rfl) ?_
  iterate 21
    refine Run.step (does_sent _ _ _ rfl rfl) ?_
  exact run_skips m ρ K c

end Cert.KernelIdeal.Gather

end
-- ==== Proof.KernelIdealDevice.lean ====
/-
# One device's run

A device's two staging buffers are cut into the pieces the schedule names: the input into read shares, three of them by
thirds; the output into the device's own chunk and the thirds of the other seven. So `run_body` gives the pipeline's
obligation for the body: from the staged input and any output buffer to the gathered output.
-/
module

public import proofs.«01_k».proof.Proof.KernelIdealBody

@[expose] public section

noncomputable section

namespace Cert.KernelIdeal.Gather

open Cert.KernelIdeal Cert.KernelIdeal.Gen Cert.Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The input in shares -/

/-- A share of the input is the share of its thirds. -/
theorem input_thirds (c : Dev nD) (a : Fin 3) :
    ((c : Thread nD τ).loc cc0_stg0_0 ↦{qt a.castSucc} xstg m ρ c : sProp 𝕄) = bigSepL [0, 1, 2] fun s => xsPts m ρ c a s := by
  rw [← bigSep_univ_eq_bigSepL [(0 : Fin 3), 1, 2] (by decide) (by decide) (fun s => xsPts m ρ c a s)]
  refine (congrArg (fun S => ((c : Thread nD τ).loc cc0_stg0_0 ↦[S]{qt a.castSucc} xstg m ρ c : sProp 𝕄)) strip_cover).trans ?_
  rw [pointsTo_biUnion _ _ fun s _ s' _ h => strip_disjoint s s' h]
  refine bigSep_congr fun s _ => ?_
  unfold xsPts
  rw [show (xT s).view.set = (strip s).set from View.set_slice_whole _ _]

/-- The input whole is the copy's share and the hops' shares. -/
theorem input_shares (c : Dev nD) :
    ((c : Thread nD τ).loc cc0_stg0_0 ↦{fullShare} xstg m ρ c : sProp 𝕄) = bigSepL (.xq :: shares) (atom m ρ c) := by
  rw [show shares = ([0, 1, 2] : List (Fin 3)).flatMap (fun a => ([0, 1, 2] : List (Fin 3)).map fun s => Atom.xs a s) from rfl,
    bigSepL_cons', listSep_flatMap]
  refine (ShareLeaves.pointsTo_leaves (ℓ := (c : Thread nD τ).loc cc0_stg0_0) Finset.univ (xstg m ρ c) 2 fullShare).trans ?_
  rw [bigSep_univ_eq_bigSepL ((3 : Fin (2 ^ 2)) :: ([0, 1, 2] : List (Fin 3)).map Fin.castSucc) (by decide) (by decide), bigSepL_cons', bigSepL_map]
  refine congrArg (fun P => iprop(xqPts m ρ c ∗ P)) (listSep_congr fun a _ => ?_)
  rw [bigSepL_map]
  exact input_thirds m ρ c a

/-! ## The output in pieces -/

/-- A chunk is its thirds. -/
theorem chunk_thirds (c : Dev nD) (k : Fin 8) (f : OutBuf F c) :
    (slabPts c k f : sProp 𝕄) = bigSepL [0, 1, 2] fun s => tilePts c k s f := by
  rw [← bigSep_univ_eq_bigSepL [(0 : Fin 3), 1, 2] (by decide) (by decide) (fun s => tilePts c k s f)]
  unfold slabPts
  rw [tile_cover k, pointsTo_biUnion _ _ fun s _ s' _ h => tile_disjoint k s s' h]
  refine bigSep_congr fun s _ => ?_
  unfold tilePts
  rw [show (oT k s).view.set = (tile k s).set from View.set_slice_whole _ _]

/-- The devices by mask from `c`. -/
def relEquiv (c : Dev nD) : Fin 8 ≃ Dev nD := ⟨rel c, rel c, xor8_cancel c, xor8_cancel c⟩

/-- The output whole is the device's own chunk and the thirds of the others. -/
theorem output_pieces (c : Dev nD) (f : OutBuf F c) :
    ((c : Thread nD τ).loc cc0_stg1_0 ↦{fullShare} f : sProp 𝕄)
      = iprop(slabPts c c f ∗ bigSepL foreign fun p => tilePts c (rel c p.1) p.2 f) := by
  refine (congrArg (fun S => ((c : Thread nD τ).loc cc0_stg1_0 ↦[S]{fullShare} f : sProp 𝕄)) slab_cover).trans ?_
  rw [pointsTo_biUnion _ _ fun k _ k' _ h => slab_disjoint k k' h]
  show bigSep Finset.univ (fun k : Dev nD => slabPts c k f) = _
  rw [bigSep_univ_equiv (relEquiv c) (fun k : Dev nD => slabPts c k f),
    bigSep_univ_eq_bigSepL [(0 : Fin 8), 1, 2, 3, 4, 5, 6, 7] (by decide) (by decide), bigSepL_cons',
    show foreign = ([1, 2, 3, 4, 5, 6, 7] : List (Fin 8)).flatMap (fun k => ([0, 1, 2] : List (Fin 3)).map fun s => (k, s)) from rfl,
    listSep_flatMap, show relEquiv c 0 = c from xor8_zero c]
  refine congrArg (fun P => iprop(slabPts c c f ∗ P)) (listSep_congr fun k _ => ?_)
  rw [bigSepL_map]
  exact chunk_thirds c (rel c k) f

theorem output_begin (c : Dev nD) (f : OutBuf F c) :
    ((c : Thread nD τ).loc cc0_stg1_0 ↦{fullShare} f : sProp 𝕄) ⊢ bigSepL (.rawOwn :: foreign.map fun p => .raw p.1 p.2) (atom m ρ c) := by
  rw [output_pieces, bigSepL_cons', bigSepL_map]
  show _ ⊢ iprop((∃ f, slabPts c c f) ∗ bigSepL foreign fun p => rawPts c (rel c p.1) p.2)
  have hraw : bigSepL foreign (fun p => (tilePts c (rel c p.1) p.2 f : sProp 𝕄)) ⊢ bigSepL foreign fun p => rawPts c (rel c p.1) p.2 :=
    bigSepL_mono fun p _ => by unfold rawPts; iintro H; iexists f; iexact H
  iintro ⟨H, Hs⟩
  isplitl [H]; · iexists f; iexact H
  iapply hraw; iexact Hs

theorem output_done (c : Dev nD) :
    bigSepL (.own :: foreign.map fun p => .tile p.1 p.2) (atom m ρ c) = ((c : Thread nD τ).loc cc0_stg1_0 ↦{fullShare} gathered m ρ : sProp 𝕄) := by
  rw [output_pieces, bigSepL_cons', bigSepL_map]; rfl

/-! ## The run -/

/-- The resources of a device's cells at the start, -/
def cellsBegin : List Atom := [.barTok 0, .barTok 1, .barTok 2, .barPos] ++ (Hop.all.map .sTok ++ Hop.all.map .rTok)
/-- and at the end: every semaphore at zero. -/
def cellsDone : List Atom := [.barDone] ++ (Hop.all.map .sDone ++ Hop.all.map .rDone)

def Φ₀ (c : Dev nD) : sProp 𝕄 := iprop((∃ K, known m ρ K) ∗ bigSepL cellsBegin (atom m ρ c))
def Φ₁ (c : Dev nD) : sProp 𝕄 := bigSepL cellsDone (atom m ρ c)

theorem run_device (c : Dev nD) (W : Waits sig Unit) (f : OutBuf F c) (Q : PUnit → sProp 𝕄) :
    iprop(Φ₀ m ρ c ∗ owes (c : Thread nD τ) (owed c program) W
        ∗ ((c : Thread nD τ).loc cc0_stg0_0 ↦{fullShare} xstg m ρ c) ∗ ((c : Thread nD τ).loc cc0_stg1_0 ↦{fullShare} f)
        ∗ ((Φ₁ m ρ c ∗ (∃ W', owes (c : Thread nD τ) 0 W') ∗ ((c : Thread nD τ).loc cc0_stg0_0 ↦{fullShare} xstg m ρ c)
            ∗ ((c : Thread nD τ).loc cc0_stg1_0 ↦{fullShare} gathered m ρ)) -∗ Q ⟨⟩))
      ⊢ WP c (theBody F) Q := by
  have hend : bigSepL (final program begin) (atom m ρ c)
      = iprop(Φ₁ m ρ c ∗ ((c : Thread nD τ).loc cc0_stg1_0 ↦{fullShare} gathered m ρ) ∗ ((c : Thread nD τ).loc cc0_stg0_0 ↦{fullShare} xstg m ρ c)) := by
    rw [listSep_perm program_final, ← output_done, input_shares]
    show bigSepL ((cellsDone ++ _) ++ _) _ = _
    rw [bigSepL_append, bigSepL_append]
    exact both sep_assoc.1 sep_assoc.2
  have hbegin : bigSepL begin (atom m ρ c) = iprop((bigSepL cellsBegin (atom m ρ c)
      ∗ bigSepL (.rawOwn :: foreign.map fun p => .raw p.1 p.2) (atom m ρ c)) ∗ bigSepL (.xq :: shares) (atom m ρ c)) := by
    show bigSepL ((cellsBegin ++ _) ++ _) _ = _
    rw [bigSepL_append, bigSepL_append]
  unfold Φ₀
  iintro ⟨⟨⟨%K, #Hkn⟩, Hcells⟩, HO, Hx, Ho, Hk⟩
  have key := run_body m ρ K c begin Q program_ok
  unfold holds at key
  rw [hend, hbegin, ← input_shares] at key
  iapply key
  isplitr [Hk]
  · isplitr; · iexact Hkn
    isplitl [HO]; · iexists W; iexact HO
    isplitr [Hx]
    · isplitl [Hcells]; · iexact Hcells
      iapply (output_begin m ρ c f); iexact Ho
    · iexact Hx
  · iintro ⟨-, HO, H1, Ho, Hx⟩
    iapply Hk
    isplitl [H1]; · iexact H1
    isplitl [HO]; · iexact HO
    isplitl [Hx] <;> iassumption

/-! ## The pipeline's data and its obligation -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gathered m ρ
  Φ t := match t with
    | ⟨0, _⟩ => Φ₀ m ρ c
    | ⟨_ + 1, _⟩ => Φ₁ m ρ c
  q _ := fullShare
  owed t := match t with
    | ⟨0, _⟩ => owed c program
    | ⟨_ + 1, _⟩ => 0

theorem fetch_input (t : Fin cfg0.N) : (cfg0.win (0 : Fin 2)).fetch t = true := by rw [fin_N0 t]; rfl

omit [FloatOps F] in
theorem owns_staging (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-- A staging buffer of device `c` that holds `X`. -/
abbrev staged (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

set_option maxRecDepth 4000 in
def bodyPre (c : Dev nD) : sProp 𝕄 :=
  iprop(Φ₀ m ρ c ∗ (dats m ρ 0 c).owesAt () t0_0.castSucc
    ∗ (∃ d, staged c cc0_stg0_0 ((dats m ρ 0 c).before (0 : Fin 2) t0_0 d))
    ∗ (∃ d, staged c cc0_stg1_0 ((dats m ρ 0 c).before (1 : Fin 2) t0_0 d)))

def bodyPost (c : Dev nD) : sProp 𝕄 :=
  iprop(Φ₁ m ρ c ∗ (dats m ρ 0 c).owesAt () t0_0.succ ∗ staged c cc0_stg0_0 (xstg m ρ c) ∗ staged c cc0_stg1_0 (gathered m ρ))

set_option maxRecDepth 20000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_staging]
  show bodyPre m ρ c ⊢ WP c (theBody F) (fun _ => bodyPost m ρ c)
  unfold bodyPre bodyPost Dat.owesAt Pipeline.owesWithin
  rw [show (dats m ρ 0 c).owed t0_0.castSucc = owed c program from rfl, show (dats m ρ 0 c).owed t0_0.succ = 0 from rfl]
  iintro ⟨HΦ, ⟨%W, -, HO⟩, ⟨%d0, %g0, %hg0, Hx⟩, ⟨%d1, %g1, %hg1, Ho⟩⟩
  have hx : g0 = xstg m ρ c := by rw [hg0]; unfold Dat.before; rw [if_pos (fetch_input t0_0)]; rfl
  subst hx
  iapply (run_device m ρ c W g1)
  isplitl [HΦ]; · iexact HΦ
  isplitl [HO]; · iexact HO
  isplitl [Hx]; · iexact Hx
  isplitl [Ho]; · iexact Ho
  iintro ⟨H1, ⟨%W', HO⟩, Hx, Ho⟩
  isplitl [H1]; · iexact H1
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

end Cert.KernelIdeal.Gather

end
-- ==== Proof.KernelIdealLaunch.lean ====
/-
# The launch

Every device's cells are made at once: their invariants go to everyone, the duty tokens go to the devices that pay them,
and the credits for what will arrive come from what all devices owe. With one device's obligation (`KernelIdealDevice`)
this gives the whole run.
-/
module

public import proofs.«01_k».proof.Proof.KernelIdealDevice
public import Idealize.ShloMosaic.Lib.Pipeline.CollectiveSegs
public import Idealize.ShloMosaic.Lib.Pipeline.ValueKit.Geometry

@[expose] public section

noncomputable section

namespace Cert.KernelIdeal.Gather

open Cert.KernelIdeal Cert.KernelIdeal.Gen Cert.Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The kernel's own semaphores. -/
abbrev osem : Hop ⊕ Hop → SemLoc sig := fun x => slotSem (some x)

theorem ownSemFacts : Pipeline.OwnSemFacts cfg0.spec osem := by decide +kernel

theorem share_eq (c : Dev nD) (w : Fin cfg0.W) : (dats m ρ 0 c).share w = fullShare := by unfold Dat.share; split <;> rfl

/-- The slot a semaphore fills. -/
def slotOf (g : GSem nD τ sig) : Dev nD × Slot := (g.1.1, match kindOf g.2 with | .snd h => some (.inl h) | .rcv h => some (.inr h) | _ => none)

theorem slotOf_cellAt : ∀ x : Dev nD × Slot, slotOf (cellAt x) = x
  | (c, none) => by unfold slotOf; dsimp only; rw [kind_bar]
  | (c, some (.inl h)) => by unfold slotOf; dsimp only; rw [kind_snd]
  | (c, some (.inr h)) => by unfold slotOf; dsimp only; rw [kind_rcv]

theorem cellAt_injective : Function.Injective cellAt := Function.LeftInverse.injective slotOf_cellAt
def allCells : Finset (GSem nD τ sig) := Finset.univ.map ⟨cellAt, cellAt_injective⟩

/-- The duties of a device's cells: three at its barrier, one at each hop's cell. -/
abbrev Duty : Type := Fin 3 ⊕ (Hop ⊕ Hop)

abbrev tokAt : Dev nD × Duty → GSem nD τ sig × ℕ × Fin 3
  | (c, .inl a) => (barCell c, 0, a) | (c, .inr x) => (cellAt (c, some x), 0, 0)

def dutyOf (t : GSem nD τ sig × ℕ × Fin 3) : Dev nD × Duty :=
  ((slotOf t.1).1, match (slotOf t.1).2 with | none => .inl t.2.2 | some x => .inr x)

theorem dutyOf_tokAt : ∀ x : Dev nD × Duty, dutyOf (tokAt x) = x
  | (c, .inl a) => by unfold dutyOf; rw [show slotOf (tokAt (c, .inl a)).1 = (c, none) from slotOf_cellAt (c, none)]
  | (c, .inr x) => by unfold dutyOf; rw [show slotOf (tokAt (c, .inr x)).1 = (c, some x) from slotOf_cellAt (c, some x)]

theorem tokAt_injective : Function.Injective tokAt := Function.LeftInverse.injective dutyOf_tokAt
def allToks : Finset (GSem nD τ sig × ℕ × Fin 3) := Finset.univ.map ⟨tokAt, tokAt_injective⟩

def u₀ : UU := (initOf (Pipeline.cells cfgs cellOf_inj) (Pipeline.launchToks cfgs cellOf_inj), initOf allCells allToks)

abbrev tokPts (x : Dev nD × Duty) : sProp 𝕄 := dutyTok ER (tokAt x).1 (tokAt x).2.1 (tokAt x).2.2

/-- The device that pays duty `j` at device `c`'s cells, and the device at whose cells `c` pays duty `j`. -/
def payer (c : Dev nD) : Duty → Dev nD
  | .inl a => nb c a | .inr (.inl _) => c | .inr (.inr h) => nb c h.axis

theorem payer_payer (c : Dev nD) : ∀ j : Duty, payer (payer c j) j = c
  | .inl a => rel_back c (bit a) | .inr (.inl _) => rfl | .inr (.inr h) => rel_back c (bit h.axis)

/-- Every duty with its payer. -/
def deal : Dev nD × Duty ≃ Dev nD × Duty :=
  ⟨fun x => (payer x.1 x.2, x.2), fun x => (payer x.1 x.2, x.2),
    fun x => by show (payer (payer x.1 x.2) x.2, x.2) = x; rw [payer_payer],
    fun x => by show (payer (payer x.1 x.2) x.2, x.2) = x; rw [payer_payer]⟩

/-- What the launch deals device `c`, -/
def G (c : Dev nD) : sProp 𝕄 :=
  iprop((bigSep Finset.univ fun s : Slot => roundState ER (sched m ρ) (cellAt (c, s)) 0)
    ∗ (bigSep Finset.univ fun s : Slot => iprop(atPos ER (cellAt (c, s)) 0 ∅ 0 ∗ reached ER (cellAt (c, s)) 0))
    ∗ bigSep Finset.univ fun j : Duty => tokPts (c, j))

/-- and what the global step makes of it: everyone's records, the positions at the device's own cells, the tokens it
    pays with. -/
def linear (c : Dev nD) : sProp 𝕄 :=
  iprop((bigSep Finset.univ fun s : Slot => atPos ER (cellAt (c, s)) 0 ∅ 0) ∗ bigSep Finset.univ fun j : Duty => tokPts (payer c j, j))
def G' (c : Dev nD) : sProp 𝕄 := iprop((∃ K, records m ρ K) ∗ linear c)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun s : Slot => Φ (cellAt (c, s)) := by
    unfold allCells; rw [bigSep_map, bigSep_univ_prod]; rfl
  have hT : bigSep allToks (fun x => (dutyTok ER x.1 x.2.1 x.2.2 : sProp 𝕄))
      = bigSep Finset.univ fun c : Dev nD => bigSep Finset.univ fun j : Duty => tokPts (c, j) := by
    unfold allToks; rw [bigSep_map, bigSep_univ_prod]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Semaphores at zero -/

omit [FloatOps F] in
/-- A device's slots: the barrier's, the hops' send and receive slots. -/
theorem bigSep_slots (Φ : Slot → sProp 𝕄) :
    bigSep Finset.univ Φ = iprop(Φ none ∗ bigSepL Hop.all (fun h => Φ (some (.inl h))) ∗ bigSepL Hop.all fun h => Φ (some (.inr h))) := by
  rw [bigSep_univ_eq_bigSepL (none :: (Hop.all.map (fun h => some (.inl h)) ++ Hop.all.map fun h => some (.inr h))) (by decide) (by decide),
    bigSepL_cons', bigSepL_append, bigSepL_map, bigSepL_map]

omit [FloatOps F] in
theorem ownSems0_eq (c : Dev nD) : (Pipeline.ownSems0 (Ix := Unit) (Name := ℕ) (U := UU) (Lvl := ℕ) (Val := Elt F) (τ := τ) osem c : sProp 𝕄)
    = iprop(bigSepL Hop.all (fun h => semVal (sCell c h) 0) ∗ bigSepL Hop.all fun h => semVal (rCell c h) 0) := by
  rw [Pipeline.ownSems0_eq_of_list c osem (Hop.all.map .inl ++ Hop.all.map .inr) (by decide) (by decide), bigSepL_append, bigSepL_map, bigSepL_map]

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun s : Slot => semVal (cellAt (c, s)) 0 : sProp 𝕄) := by
  rw [ownSems0_eq, unscopedSems0_eq, bigSep_slots]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun s : Slot => iprop(∃ κ : ℕ, cellInv ER (sched m ρ) κ (cellAt (c, s))))
          ∗ (bigSep Finset.univ fun s : Slot => iprop(atPos ER (cellAt (c, s)) 0 ∅ 0 ∗ reached ER (cellAt (c, s)) 0))
          ∗ bigSep Finset.univ fun j : Duty => tokPts (c, j)) := by
  unfold G
  iintro ⟨Hos, Hus, Hst, Hat, Htok⟩
  ihave Hv := (sems0_eq (F := F) c) $$ [Hos Hus]
  · isplitl [Hos] <;> iassumption
  imod (show iprop((bigSep Finset.univ fun s : Slot => semVal (cellAt (c, s)) 0) ∗ bigSep Finset.univ fun s : Slot => roundState ER (sched m ρ) (cellAt (c, s)) 0)
      ⊢ (|={Set.univ}=> bigSep Finset.univ fun s : Slot => iprop(∃ κ : ℕ, cellInv ER (sched m ρ) κ (cellAt (c, s))) : sProp 𝕄) from by
        rw [← bigSep_sep']
        exact (bigSep_mono fun s _ => (Rounds.body_intro ER (sched m ρ) (cellAt (c, s))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Every token to its payer. -/
theorem toks_dealt : (bigSep Finset.univ fun c : Dev nD => bigSep Finset.univ fun j : Duty => (tokPts (c, j) : sProp 𝕄))
    = bigSep Finset.univ fun c : Dev nD => bigSep Finset.univ fun j : Duty => tokPts (payer c j, j) := by
  rw [← bigSep_univ_prod (fun x : Dev nD × Duty => (tokPts x : sProp 𝕄)), bigSep_univ_equiv deal (fun x : Dev nD × Duty => (tokPts x : sProp 𝕄)),
    bigSep_univ_prod]
  rfl

/-- The records go to every device. -/
theorem records_to_all (K : Dev nD × Slot → ℕ) : iprop(records m ρ K ∗ bigSep Finset.univ fun c : Dev nD => linear c) ⊢ bigSep Finset.univ (G' m ρ) := by
  have h (c : Dev nD) : iprop(records m ρ K ∗ linear c) ⊢ G' m ρ c := by
    unfold G'
    iintro ⟨HR, HL⟩
    isplitl [HR]; · iexists K; iexact HR
    iexact HL
  refine (sep_mono_left (BI.bigSep_of_persistent (Finset.univ : Finset (Dev nD)) (records m ρ K))).trans ?_
  rw [← bigSep_sep']
  exact bigSep_mono fun c _ => h c

theorem regroup :
    (bigSep Finset.univ fun c : Dev nD => iprop((bigSep Finset.univ fun s : Slot => iprop(∃ κ : ℕ, cellInv ER (sched m ρ) κ (cellAt (c, s))))
          ∗ (bigSep Finset.univ fun s : Slot => iprop(atPos ER (cellAt (c, s)) 0 ∅ 0 ∗ reached ER (cellAt (c, s)) 0))
          ∗ bigSep Finset.univ fun j : Duty => tokPts (c, j)) : sProp 𝕄)
      ⊢ bigSep Finset.univ (G' m ρ) := by
  rw [bigSep_sep', bigSep_sep', ← bigSep_univ_prod (fun x : Dev nD × Slot => iprop(∃ κ : ℕ, cellInv ER (sched m ρ) κ (cellAt x))),
    bigSep_congr (s := Finset.univ) (fun (c : Dev nD) _ => bigSep_sep' Finset.univ (fun s : Slot => (atPos ER (cellAt (c, s)) 0 ∅ 0 : sProp 𝕄)) (fun s => reached ER (cellAt (c, s)) 0)),
    bigSep_sep', ← bigSep_univ_prod (fun x : Dev nD × Slot => (reached ER (cellAt x) 0 : sProp 𝕄)), toks_dealt]
  iintro ⟨HI, ⟨Hat, #HR⟩, Htok⟩
  ihave HK := (BI.bigSep_exists_pi Finset.univ (fun (x : Dev nD × Slot) (κ : ℕ) => (cellInv ER (sched m ρ) κ (cellAt x) : sProp 𝕄))) $$ HI
  icases HK with ⟨%K, #HI⟩
  iapply (records_to_all m ρ K)
  isplitr
  · unfold records; isplitl; · iexact HI
    iexact HR
  · unfold linear; rw [bigSep_sep']
    isplitl [Hat]; · iexact Hat
    iexact Htok

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits of the launch -/

/-- All devices paying `n` to the neighbour's cell: one of the payments is at device `c`. -/
theorem sum_neighbours (cell : Dev nD → GSem nD τ sig) (hc : Function.Injective cell) (a : Fin 3) (c : Dev nD) (n : ℕ) :
    ∑ d : Dev nD, (tallyAt (cell (nb d a)) () n : CellTallies nD τ sig Unit) (cell c) () = n := by
  rw [Finset.sum_eq_single (nb c a)]
  · rw [show nb (nb c a) a = c from rel_back c (bit a), tallyAt_apply, if_pos ⟨rfl, rfl⟩]
  · intro d _ hd
    rw [tallyAt_apply, if_neg fun h => hd ?_]
    rw [hc h.1]; exact (rel_back d (bit a)).symm
  · exact fun h => absurd (Finset.mem_univ _) h

/-- Cells of different slots are different cells. -/
theorem slot_ne {c d : Dev nD} {s t : Slot} (h : s ≠ t) : cellAt (c, s) ≠ cellAt (d, t) :=
  fun e => h (congrArg Prod.snd (cellAt_injective e))

theorem slot_injective (s : Slot) : Function.Injective fun c : Dev nD => cellAt (c, s) :=
  fun _ _ e => congrArg Prod.fst (cellAt_injective e)

theorem unpaid {g g' : GSem nD τ sig} (h : g' ≠ g) {n : ℕ} : (tallyAt g () n : CellTallies nD τ sig Unit) g' () = 0 := by
  rw [tallyAt_ne_cell h]; rfl

/-- What an operation pays, on every device together, at one barrier cell -/
def atBar : Op → ℕ
  | .signal _ => 1
  | _ => 0

/-- and at one receive cell of hop `h`. -/
def atRecv (h : Hop) : Op → ℕ
  | .send h' => if h' = h then credit h.third else 0
  | _ => 0

theorem due_bar (c : Dev nD) (o : Op) : ∑ d : Dev nD, due d o (barCell c) () = atBar o := by
  cases o with
  | signal a => exact sum_neighbours _ (slot_injective none) a c 1
  | send h =>
    exact Finset.sum_eq_zero fun d _ => unpaid (slot_ne (s := none) (t := some (.inr h)) (by simp))
  | _ => exact Finset.sum_eq_zero fun d _ => rfl

theorem due_recv (c : Dev nD) (h : Hop) (o : Op) : ∑ d : Dev nD, due d o (rCell c h) () = atRecv h o := by
  cases o with
  | signal a =>
    exact Finset.sum_eq_zero fun d _ => unpaid (slot_ne (s := some (.inr h)) (t := none) (by simp))
  | send h' =>
    by_cases e : h' = h
    · subst e
      exact (sum_neighbours _ (slot_injective (some (.inr h'))) h'.axis c (credit h'.third)).trans (if_pos rfl).symm
    · exact (Finset.sum_eq_zero fun d _ => unpaid (slot_ne (s := some (.inr h)) (t := some (.inr h'))
        fun x => e (Sum.inr.inj (Option.some.inj x)).symm)).trans (if_neg e).symm
  | _ => exact Finset.sum_eq_zero fun d _ => rfl

/-- What a list of operations pays at a cell, on every device together, is the sum over the operations. -/
theorem owed_sum (g : GSem nD τ sig) (n : Op → ℕ) (hn : ∀ o, ∑ d : Dev nD, due d o g () = n o) :
    ∀ ops : List Op, ∑ d : Dev nD, owed d ops g () = (ops.map n).sum
  | [] => Finset.sum_eq_zero fun _ _ => rfl
  | o :: ops => by
    rw [List.map_cons, List.sum_cons, ← hn o, ← owed_sum g n hn ops, ← Finset.sum_add_distrib]
    exact Finset.sum_congr rfl fun d _ => add_comm (owed d ops g ()) _

theorem atRecv_sum (h : Hop) : ∀ ops : List Op, (ops.map (atRecv h)).sum = ops.count (.send h) * credit h.third
  | [] => (Nat.zero_mul _).symm
  | o :: ops => by
    rw [List.map_cons, List.sum_cons, atRecv_sum h ops, List.count_cons, Nat.add_mul, Nat.add_comm]
    congr 1
    cases o with
    | send h' => by_cases e : h' = h <;> simp [atRecv, e]
    | _ => simp [atRecv]

theorem bar_total : (program.map atBar).sum = 3 := by decide +kernel
theorem sends_once : ∀ h : Hop, h.used = true → program.count (.send h) = 1 := by decide +kernel

/-- What the devices owe at the start. -/
def O₀ (c : Dev nD) : CellTallies nD τ sig Unit := owed c program

theorem launch_at (g : GSem nD τ sig) {n : ℕ} (h : ∑ d : Dev nD, owed d program g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same]; exact h

theorem launch_bar (c : Dev nD) :
    tallyOn (barCell c) (launchCredit (Pipeline.owing O₀) 0 (barCell c)) = (tallyAt (barCell c) () 3 : CellTallies nD τ sig Unit) :=
  launch_at _ ((owed_sum _ atBar (due_bar c) program).trans bar_total)

theorem launch_recv (c : Dev nD) (h : Hop) (hu : h.used = true) :
    tallyOn (rCell c h) (launchCredit (Pipeline.owing O₀) 0 (rCell c h)) = (tallyAt (rCell c h) () (credit h.third) : CellTallies nD τ sig Unit) :=
  launch_at _ ((owed_sum _ (atRecv h) (due_recv c h) program).trans ((atRecv_sum h program).trans (by rw [sends_once h hu, Nat.one_mul])))

/-- The semaphores with a credit: the barrier's and the receive ones. -/
def credSem : Option Hop → SemLoc sig := fun x => slotSem (x.map .inr)

theorem credSem_injective : Function.Injective credSem := fun x y e => by
  have h := cellAt_injective (a₁ := ((0 : Dev nD), x.map .inr)) (a₂ := (0, y.map .inr)) (congrArg (Prod.mk _) e)
  exact Option.map_injective Sum.inr_injective (congrArg Prod.snd h)

omit [FloatOps F] in
theorem creds (c : Dev nD) : (Pipeline.launchCred O₀ c : sProp 𝕄)
    ⊢ iprop(cred (tallyAt (barCell c) () 3) ∗ bigSepL Hop.all fun h => if h.used = true then cred (tallyAt (rCell c h) () (credit h.third)) else iprop(emp)) := by
  unfold Pipeline.launchCred
  refine (BI.bigSep_subset (Finset.subset_univ (Finset.univ.map ⟨credSem, credSem_injective⟩))).trans ?_
  rw [bigSep_map, bigSep_univ_eq_bigSepL (none :: Hop.all.map some) (by decide) (by decide), bigSepL_cons', bigSepL_map]
  refine BI.sep_mono (Entails.of_eq (congrArg cred (launch_bar c))) (bigSepL_mono fun h _ => ?_)
  by_cases hu : h.used = true
  · rw [if_pos hu]; exact Entails.of_eq (congrArg cred (launch_recv c h hu))
  · rw [if_neg hu]; exact BI.affine

/-! ## The theorem's side conditions -/

/-- A device's cells at the start, as its program names them. -/
theorem cells_begin (c : Dev nD) : bigSepL cellsBegin (atom m ρ c)
    = iprop((dutyTok ER (barCell (nb c 0)) 0 0 ∗ dutyTok ER (barCell (nb c 1)) 0 1 ∗ dutyTok ER (barCell (nb c 2)) 0 2
        ∗ atPos ER (barCell c) 0 ∅ 0 ∗ cred (tallyAt (barCell c) () 3))
      ∗ ((bigSepL Hop.all fun h => atPos ER (sCell c h) 0 ∅ 0) ∗ (bigSepL Hop.all fun h => dutyTok ER (sCell c h) 0 0)
        ∗ bigSepL Hop.all fun h => dutyTok ER (rCell (nb c h.axis) h) 0 0)
      ∗ (bigSepL Hop.all fun h => atPos ER (rCell c h) 0 ∅ 0)
        ∗ bigSepL Hop.all fun h => if h.used = true then cred (tallyAt (rCell c h) () (credit h.third)) else iprop(emp)) := by
  unfold cellsBegin
  rw [bigSepL_append, bigSepL_append, bigSepL_map, bigSepL_map, bigSepL_cons', bigSepL_cons', bigSepL_cons', bigSepL_singleton]
  show iprop(_ ∗ (bigSepL Hop.all fun h => iprop(_ ∗ _ ∗ _)) ∗ bigSepL Hop.all fun h => iprop(_ ∗ _)) = _
  rw [listSep_sep, listSep_sep, listSep_sep]
  rfl

omit [FloatOps F] in
theorem duties_eq (c : Dev nD) : (bigSep Finset.univ fun j : Duty => (tokPts (payer c j, j) : sProp 𝕄))
    = iprop((dutyTok ER (barCell (nb c 0)) 0 0 ∗ dutyTok ER (barCell (nb c 1)) 0 1 ∗ dutyTok ER (barCell (nb c 2)) 0 2)
      ∗ (bigSepL Hop.all fun h => dutyTok ER (sCell c h) 0 0) ∗ bigSepL Hop.all fun h => dutyTok ER (rCell (nb c h.axis) h) 0 0) := by
  rw [bigSep_univ_eq_bigSepL ([.inl 0, .inl 1, .inl 2] ++ (Hop.all.map (fun h => .inr (.inl h)) ++ Hop.all.map fun h => .inr (.inr h))) (by decide) (by decide),
    bigSepL_append, bigSepL_append, bigSepL_map, bigSepL_map, bigSepL_cons', bigSepL_cons', bigSepL_singleton]
  rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(Φ₀ m ρ c ∗ emp) := by
  unfold Φ₀ G' linear known
  rw [cells_begin, duties_eq, bigSep_slots]
  iintro ⟨-, Hlev, Hcr, -, ⟨%K, HR⟩, ⟨Hb, Hs, Hr⟩, ⟨Ht0, Ht1, Ht2⟩, Hts, Htr⟩
  ihave Hc := (creds (F := F) c) $$ Hcr
  icases Hc with ⟨Hc, Hcr⟩
  imodintro
  isplitl
  · isplitl [HR Hlev]
    · iexists K
      isplitl [HR] <;> iassumption
    isplitl [Ht0 Ht1 Ht2 Hb Hc]
    · isplitl [Ht0]; · iexact Ht0
      isplitl [Ht1]; · iexact Ht1
      isplitl [Ht2]; · iexact Ht2
      isplitl [Hb] <;> iassumption
    isplitl [Hs Hts Htr]
    · isplitl [Hs]; · iexact Hs
      isplitl [Hts] <;> iassumption
    isplitl [Hr]; · iexact Hr
    iexact Hcr
  · iempintro

theorem phi0_intro (c : Dev nD) :
    iprop(Φ₀ m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  iintro ⟨H, -, -⟩
  iexact H

theorem phi1_exit (c : Dev nD) :
    (dats m ρ 0 c).Φ (Fin.last cfg0.N) ⊢ iprop(unscopedSems0 c ∗ Pipeline.ownSems0 osem c ∗ Pipeline.scopedRest cfg0.spec c) := by
  have h : Φ₁ m ρ c = iprop(semVal (barCell c) 0 ∗ (bigSepL Hop.all fun h => semVal (sCell c h) 0) ∗ bigSepL Hop.all fun h => semVal (rCell c h) 0) := by
    unfold Φ₁ cellsDone
    rw [bigSepL_append, bigSepL_append, bigSepL_map, bigSepL_map, bigSepL_singleton]
    rfl
  rw [show (dats m ρ 0 c).Φ (Fin.last cfg0.N) = Φ₁ m ρ c from rfl, scopedRest0_eq, ownSems0_eq, unscopedSems0_eq, h]
  iintro ⟨HB, HS⟩
  isplitl [HB]; · iexact HB
  isplitl [HS]; · iexact HS
  iempintro

theorem above_zero : program.all (Op.above 0) = true := by decide +kernel

/-- The pipeline's own semaphores lie below everything a device owes. -/
theorem mayWait_stage (c : Dev nD) (sm : SemLoc sig) (h0 : kindOf sm = .other) (O : CellTallies nD τ sig Unit) (hO : O = owed c program ∨ O = 0) :
    (levAts L lv : sProp 𝕄) ⊢ MayWait (c : Thread nD τ) sm () O := by
  have hl : lv ((c : Thread nD τ), sm) () = 0 := by unfold lv; rw [h0]
  rcases hO with rfl | rfl
  · exact mayWait c sm program (by rw [hl]; exact above_zero)
  · exact mayWait c sm [] rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the two arrays hold at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters the eight devices' run terminates without fault; every device's arrays end as
    computed, and every semaphore counter is zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := Φ₀ m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array ends as it began, -/
theorem finalA_x (c : Dev nD) : finalA m ρ c (0 : Fin 2) = (s₀ m ρ).mem (win0_0.arr.view.loc (c : Thread nD τ)) :=
  (dats (F := F) m ρ 0 c).arrAt_in (0 : Fin 2) rfl _

/-- and the output array ends with the gathered rows. -/
theorem finalA_o (c : Dev nD) : finalA m ρ c (1 : Fin 2) = gathered m ρ :=
  (dats (F := F) m ρ 0 c).arrAt_eq_of_after_last (1 : Fin 2) t0_0 (by decide +kernel) _ fun _ => rfl

end Cert.KernelIdeal.Gather

end
-- ==== Proof.KernelIdealValue.lean ====
/-
# The run's value

From the run of `KernelIdealLaunch`: the arguments end unchanged, and every device's result holds, in chunk `k`, what
device `k`'s argument held. If the arguments are the blocks of one array, every result is that array.
-/
module

public import proofs.«01_k».proof.Proof.KernelIdealLaunch
public import proofs.«01_k».proof.Proof.Blocks
public import Idealize.ShloMosaic.Lib.StableHlo.RunHlo

@[expose] public section

noncomputable section

namespace Cert.KernelIdeal.Gather

open Cert.KernelIdeal Cert.KernelIdeal.Gen Cert.Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The staged input is the whole argument. -/
theorem xstg_eq (c : Dev nD) : xstg m ρ c = m ((c : Thread nD τ).loc main_arg0) := by
  refine funext fun i => congrArg (m ((c : Thread nD τ).loc main_arg0)) (funext fun a => Fin.ext ?_)
  exact Window.rect_emb_val_of_index_zero win0_0 (0 : Fin 1) a (by fin_cases a <;> rfl) i

/-- Every device's argument ends as it began, its result holds the gathered rows, and every semaphore counter ends at
    zero. -/
theorem run : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_v1) = gathered m ρ) ∧ r.2.sem = fun _ => 0) :=
  θ_run_mono (run_main m ρ) fun _ h => ⟨fun c => ⟨(h.1 c (0 : Fin 2)).trans (finalA_x m ρ c), (h.1 c (1 : Fin 2)).trans (finalA_o m ρ c)⟩, h.2⟩

/-- The frame: no fault, the arguments unchanged, every counter at zero. -/
theorem frame : θ_run defs (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  θ_run_mono (run m ρ) fun _ h => ⟨fun c => (h.1 c).1, h.2⟩

/-- Where the arguments are the blocks of an array, the gathered rows are that array. -/
theorem gathered_eq (w : All.Idx → Elt F .f32)
    (hw : ∀ c : Dev nD, m ((c.tc : Thread nD τ).loc main_arg0) = Layout.block Chunk All 0 8 c w) : gathered m ρ = w :=
  assembled (fun c : Fin 8 => xstg m ρ c) w fun c => (xstg_eq m ρ c).trans (hw c)

end Cert.KernelIdeal.Gather

end
-- ==== Proof.ReferenceIdealRun.lean ====
/-
# The reference's run

The reference returns its argument: it does nothing, and it has no semaphore.
-/
module

public import proofs.«01_k».proof.Proof.Gen.ReferenceIdeal
public import Idealize.ShloMosaic.Lib.StableHlo.RunHlo

@[expose] public section

noncomputable section

open Idealize.ShloMosaic Idealize.SL.Sem

namespace Cert.ReferenceIdeal

variable {F : FTy → Type} [FloatOps F]
variable (m : (ℓ : Loc nD τ sig) → Buf (Elt F) ℓ) (ρ : Dev nD → PrngReg)

/-- The reference's run ends with its array as it began and every semaphore counter at zero. -/
theorem run : θ_run defs (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  θ_run_mono (StableHlo.run_hlo defs main (fun _ => StableHlo.IsSeq.nil) (by decide) (by decide) trivial (fun _ h => absurd h List.not_mem_nil) m ρ)
    fun r h => ⟨fun c => h c main_arg0, funext fun g => match g with
      | (_, .reg q) => q.elim0
      | (_, .dma q) => q.elim0⟩

end Cert.ReferenceIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelValue
public import proofs.«01_k».proof.Proof.KernelIdealValue
public import proofs.«01_k».proof.Proof.ReferenceIdealRun
public import Idealize.ShloMosaic.Adequacy
public import Idealize.ShloMosaic.Init

@[expose] public section

noncomputable section

namespace Cert.Proof

open Idealize.ShloMosaic Idealize.SL.Sem Cert.Kernel

/-- Over the reals every device's result is the reference's whole array. -/
theorem value : algebraic_KernelIdeal_ReferenceIdeal := fun m g m' g' _ hm =>
  ⟨_, θ_run_mono (Cert.KernelIdeal.Gather.run m g) fun _ h c => ⟨(h.1 c).2.trans (Cert.KernelIdeal.Gather.gathered_eq m g _ hm), (h.1 c).1⟩,
    θ_run_mono (Cert.ReferenceIdeal.run m' g') fun _ h => ⟨h.1 0, h.1 0⟩⟩

/-- The five claims: the three frames, that the ideal program is the kernel's own text, and the value. -/
theorem claim : Cert.Claim := ⟨Cert.Kernel.Gen.facts, Cert.KernelIdeal.Gen.facts, Cert.ReferenceIdeal.Gen.facts,
  fun m g _ => Cert.Kernel.Gather.frame m g, fun m g _ => Cert.KernelIdeal.Gather.frame m g, fun m g _ => Cert.ReferenceIdeal.run m g,
  trivial, value⟩

end Cert.Proof

end
